-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_scores [hPre_finite_scores : Cert.Pre_finite_scores.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_scores.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_scores [hPre_finite_scores : Cert.Pre_finite_scores.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_scores.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedReferenceIdeal (m : (ℓ : Loc Cert.EmbedReferenceIdeal.nD Cert.EmbedReferenceIdeal.τ Cert.EmbedReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionIdeal_pre_finite_scores [hAttentionIdeal : Cert.AttentionIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_scores m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4))
      ∧ r.2.sem = fun _ => 0)

def quiescent_AttentionReferenceIdeal_pre_finite_scores [hAttentionReferenceIdeal : Cert.AttentionReferenceIdeal.Facts] [hPre_finite_scores : Cert.Pre_finite_scores.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_scores m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4)
      ∧ r.2.mem ((c.tc : Thread Cert.Embed.nD Cert.Embed.τ).loc Cert.Embed.main_arg5) = m ((c.tc : Thread Cert.Embed.nD Cert.Embed.τ).loc Cert.Embed.main_arg5)
      ∧ r.2.mem ((c.tc : Thread Cert.Embed.nD Cert.Embed.τ).loc Cert.Embed.main_arg6) = m ((c.tc : Thread Cert.Embed.nD Cert.Embed.τ).loc Cert.Embed.main_arg6))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
      ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5)
      ∧ r.2.mem ((c.tc : Thread Cert.EmbedIdeal.nD Cert.EmbedIdeal.τ).loc Cert.EmbedIdeal.main_arg6) = m ((c.tc : Thread Cert.EmbedIdeal.nD Cert.EmbedIdeal.τ).loc Cert.EmbedIdeal.main_arg6))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2)
      ∧ r.2.mem ((c.tc : Thread Cert.EmbedReferenceIdeal.nD Cert.EmbedReferenceIdeal.τ).loc Cert.EmbedReferenceIdeal.main_arg3) = m ((c.tc : Thread Cert.EmbedReferenceIdeal.nD Cert.EmbedReferenceIdeal.τ).loc Cert.EmbedReferenceIdeal.main_arg3)
      ∧ r.2.mem ((c.tc : Thread Cert.EmbedReferenceIdeal.nD Cert.EmbedReferenceIdeal.τ).loc Cert.EmbedReferenceIdeal.main_arg4) = m ((c.tc : Thread Cert.EmbedReferenceIdeal.nD Cert.EmbedReferenceIdeal.τ).loc Cert.EmbedReferenceIdeal.main_arg4)
      ∧ r.2.mem ((c.tc : Thread Cert.EmbedReferenceIdeal.nD Cert.EmbedReferenceIdeal.τ).loc Cert.EmbedReferenceIdeal.main_arg5) = m ((c.tc : Thread Cert.EmbedReferenceIdeal.nD Cert.EmbedReferenceIdeal.τ).loc Cert.EmbedReferenceIdeal.main_arg5)
      ∧ r.2.mem ((c.tc : Thread Cert.EmbedReferenceIdeal.nD Cert.EmbedReferenceIdeal.τ).loc Cert.EmbedReferenceIdeal.main_arg6) = m ((c.tc : Thread Cert.EmbedReferenceIdeal.nD Cert.EmbedReferenceIdeal.τ).loc Cert.EmbedReferenceIdeal.main_arg6))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Attention_AttentionIdeal : Prop :=
  True

def algebraic_AttentionIdeal_AttentionReferenceIdeal_pre_finite_scores [hAttentionIdeal : Cert.AttentionIdeal.Facts] [hAttentionReferenceIdeal : Cert.AttentionReferenceIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_scores m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v40) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)) →
    ∃ (v0 : (c : Dev Cert.DenseIdeal.nD) → Buf (Elt Ideal) ((c.tc : Thread Cert.DenseIdeal.nD Cert.DenseIdeal.τ).loc Cert.DenseIdeal.main_v6)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v6) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v5) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3))

def preserves_Embed_EmbedIdeal : Prop :=
  True

def algebraic_EmbedIdeal_EmbedReferenceIdeal [hEmbedIdeal : Cert.EmbedIdeal.Facts] [hEmbedReferenceIdeal : Cert.EmbedReferenceIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedIdeal m →
    (∀ c : Dev Cert.EmbedIdeal.nD,
      m' ((c.tc : Thread Cert.EmbedReferenceIdeal.nD Cert.EmbedReferenceIdeal.τ).loc Cert.EmbedReferenceIdeal.main_arg0) = m ((c.tc : Thread Cert.EmbedIdeal.nD Cert.EmbedIdeal.τ).loc Cert.EmbedIdeal.main_arg0)
      ∧ m' ((c.tc : Thread Cert.EmbedReferenceIdeal.nD Cert.EmbedReferenceIdeal.τ).loc Cert.EmbedReferenceIdeal.main_arg1) = m ((c.tc : Thread Cert.EmbedIdeal.nD Cert.EmbedIdeal.τ).loc Cert.EmbedIdeal.main_arg1)
      ∧ m' ((c.tc : Thread Cert.EmbedReferenceIdeal.nD Cert.EmbedReferenceIdeal.τ).loc Cert.EmbedReferenceIdeal.main_arg2) = m ((c.tc : Thread Cert.EmbedIdeal.nD Cert.EmbedIdeal.τ).loc Cert.EmbedIdeal.main_arg2)
      ∧ m' ((c.tc : Thread Cert.EmbedReferenceIdeal.nD Cert.EmbedReferenceIdeal.τ).loc Cert.EmbedReferenceIdeal.main_arg3) = m ((c.tc : Thread Cert.EmbedIdeal.nD Cert.EmbedIdeal.τ).loc Cert.EmbedIdeal.main_arg3)
      ∧ m' ((c.tc : Thread Cert.EmbedReferenceIdeal.nD Cert.EmbedReferenceIdeal.τ).loc Cert.EmbedReferenceIdeal.main_arg4) = m ((c.tc : Thread Cert.EmbedIdeal.nD Cert.EmbedIdeal.τ).loc Cert.EmbedIdeal.main_arg4)
      ∧ m' ((c.tc : Thread Cert.EmbedReferenceIdeal.nD Cert.EmbedReferenceIdeal.τ).loc Cert.EmbedReferenceIdeal.main_arg5) = m ((c.tc : Thread Cert.EmbedIdeal.nD Cert.EmbedIdeal.τ).loc Cert.EmbedIdeal.main_arg5)
      ∧ m' ((c.tc : Thread Cert.EmbedReferenceIdeal.nD Cert.EmbedReferenceIdeal.τ).loc Cert.EmbedReferenceIdeal.main_arg6) = m ((c.tc : Thread Cert.EmbedIdeal.nD Cert.EmbedIdeal.τ).loc Cert.EmbedIdeal.main_arg6)) →
    ∃ (v0 : (c : Dev Cert.EmbedIdeal.nD) → Buf (Elt Ideal) ((c.tc : Thread Cert.EmbedIdeal.nD Cert.EmbedIdeal.τ).loc Cert.EmbedIdeal.main_v4_0)) (v1 : (c : Dev Cert.EmbedIdeal.nD) → Buf (Elt Ideal) ((c.tc : Thread Cert.EmbedIdeal.nD Cert.EmbedIdeal.τ).loc Cert.EmbedIdeal.main_v4_1)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v4_0) = v0 c
          ∧ r.2.mem ((c.tc : Thread Cert.EmbedIdeal.nD Cert.EmbedIdeal.τ).loc Cert.EmbedIdeal.main_v4_1) = v1 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
          ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5)
          ∧ r.2.mem ((c.tc : Thread Cert.EmbedIdeal.nD Cert.EmbedIdeal.τ).loc Cert.EmbedIdeal.main_arg6) = m ((c.tc : Thread Cert.EmbedIdeal.nD Cert.EmbedIdeal.τ).loc Cert.EmbedIdeal.main_arg6))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v60) = v0 c
          ∧ r.2.mem ((c.tc : Thread Cert.EmbedReferenceIdeal.nD Cert.EmbedReferenceIdeal.τ).loc Cert.EmbedReferenceIdeal.main_v73) = v1 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1)
          ∧ r.2.mem ((c.tc : Thread Cert.EmbedReferenceIdeal.nD Cert.EmbedReferenceIdeal.τ).loc Cert.EmbedReferenceIdeal.main_arg2) = m' ((c.tc : Thread Cert.EmbedReferenceIdeal.nD Cert.EmbedReferenceIdeal.τ).loc Cert.EmbedReferenceIdeal.main_arg2)
          ∧ r.2.mem ((c.tc : Thread Cert.EmbedReferenceIdeal.nD Cert.EmbedReferenceIdeal.τ).loc Cert.EmbedReferenceIdeal.main_arg3) = m' ((c.tc : Thread Cert.EmbedReferenceIdeal.nD Cert.EmbedReferenceIdeal.τ).loc Cert.EmbedReferenceIdeal.main_arg3)
          ∧ r.2.mem ((c.tc : Thread Cert.EmbedReferenceIdeal.nD Cert.EmbedReferenceIdeal.τ).loc Cert.EmbedReferenceIdeal.main_arg4) = m' ((c.tc : Thread Cert.EmbedReferenceIdeal.nD Cert.EmbedReferenceIdeal.τ).loc Cert.EmbedReferenceIdeal.main_arg4)
          ∧ r.2.mem ((c.tc : Thread Cert.EmbedReferenceIdeal.nD Cert.EmbedReferenceIdeal.τ).loc Cert.EmbedReferenceIdeal.main_arg5) = m' ((c.tc : Thread Cert.EmbedReferenceIdeal.nD Cert.EmbedReferenceIdeal.τ).loc Cert.EmbedReferenceIdeal.main_arg5)
          ∧ r.2.mem ((c.tc : Thread Cert.EmbedReferenceIdeal.nD Cert.EmbedReferenceIdeal.τ).loc Cert.EmbedReferenceIdeal.main_arg6) = m' ((c.tc : Thread Cert.EmbedReferenceIdeal.nD Cert.EmbedReferenceIdeal.τ).loc Cert.EmbedReferenceIdeal.main_arg6))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v24_0)) (v1 : (c : Dev Cert.ProjectIdeal.nD) → Buf (Elt Ideal) ((c.tc : Thread Cert.ProjectIdeal.nD Cert.ProjectIdeal.τ).loc Cert.ProjectIdeal.main_v24_1)) (v2 : (c : Dev Cert.ProjectIdeal.nD) → Buf (Elt Ideal) ((c.tc : Thread Cert.ProjectIdeal.nD Cert.ProjectIdeal.τ).loc Cert.ProjectIdeal.main_v24_2)) (v3 : (c : Dev Cert.ProjectIdeal.nD) → Buf (Elt Ideal) ((c.tc : Thread Cert.ProjectIdeal.nD Cert.ProjectIdeal.τ).loc Cert.ProjectIdeal.main_v24_3)) (v4 : (c : Dev Cert.ProjectIdeal.nD) → Buf (Elt Ideal) ((c.tc : Thread Cert.ProjectIdeal.nD Cert.ProjectIdeal.τ).loc Cert.ProjectIdeal.main_v24_4)) (v5 : (c : Dev Cert.ProjectIdeal.nD) → Buf (Elt Ideal) ((c.tc : Thread Cert.ProjectIdeal.nD Cert.ProjectIdeal.τ).loc Cert.ProjectIdeal.main_v24_5)) (v6 : (c : Dev Cert.ProjectIdeal.nD) → Buf (Elt Ideal) ((c.tc : Thread Cert.ProjectIdeal.nD Cert.ProjectIdeal.τ).loc Cert.ProjectIdeal.main_v24_8)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v24_0) = v0 c
          ∧ r.2.mem ((c.tc : Thread Cert.ProjectIdeal.nD Cert.ProjectIdeal.τ).loc Cert.ProjectIdeal.main_v24_1) = v1 c
          ∧ r.2.mem ((c.tc : Thread Cert.ProjectIdeal.nD Cert.ProjectIdeal.τ).loc Cert.ProjectIdeal.main_v24_2) = v2 c
          ∧ r.2.mem ((c.tc : Thread Cert.ProjectIdeal.nD Cert.ProjectIdeal.τ).loc Cert.ProjectIdeal.main_v24_3) = v3 c
          ∧ r.2.mem ((c.tc : Thread Cert.ProjectIdeal.nD Cert.ProjectIdeal.τ).loc Cert.ProjectIdeal.main_v24_4) = v4 c
          ∧ r.2.mem ((c.tc : Thread Cert.ProjectIdeal.nD Cert.ProjectIdeal.τ).loc Cert.ProjectIdeal.main_v24_5) = v5 c
          ∧ r.2.mem ((c.tc : Thread Cert.ProjectIdeal.nD Cert.ProjectIdeal.τ).loc Cert.ProjectIdeal.main_v24_8) = v6 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v25) = v0 c
          ∧ r.2.mem ((c.tc : Thread Cert.ProjectReferenceIdeal.nD Cert.ProjectReferenceIdeal.τ).loc Cert.ProjectReferenceIdeal.main_v15) = v1 c
          ∧ r.2.mem ((c.tc : Thread Cert.ProjectReferenceIdeal.nD Cert.ProjectReferenceIdeal.τ).loc Cert.ProjectReferenceIdeal.main_v16) = v2 c
          ∧ r.2.mem ((c.tc : Thread Cert.ProjectReferenceIdeal.nD Cert.ProjectReferenceIdeal.τ).loc Cert.ProjectReferenceIdeal.main_v26) = v3 c
          ∧ r.2.mem ((c.tc : Thread Cert.ProjectReferenceIdeal.nD Cert.ProjectReferenceIdeal.τ).loc Cert.ProjectReferenceIdeal.main_v27) = v4 c
          ∧ r.2.mem ((c.tc : Thread Cert.ProjectReferenceIdeal.nD Cert.ProjectReferenceIdeal.τ).loc Cert.ProjectReferenceIdeal.main_v22) = v5 c
          ∧ r.2.mem ((c.tc : Thread Cert.ProjectReferenceIdeal.nD Cert.ProjectReferenceIdeal.τ).loc Cert.ProjectReferenceIdeal.main_v28) = v6 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hAttentionReferenceIdeal : Cert.AttentionReferenceIdeal.Facts) (hDense : Cert.Dense.Facts) (hDenseIdeal : Cert.DenseIdeal.Facts) (hDenseReferenceIdeal : Cert.DenseReferenceIdeal.Facts) (hEmbed : Cert.Embed.Facts) (hEmbedIdeal : Cert.EmbedIdeal.Facts) (hEmbedReferenceIdeal : Cert.EmbedReferenceIdeal.Facts) (hProject : Cert.Project.Facts) (hProjectIdeal : Cert.ProjectIdeal.Facts) (hProjectReferenceIdeal : Cert.ProjectReferenceIdeal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Attention (hAttention := hAttention)
    ∧ quiescent_AttentionIdeal (hAttentionIdeal := hAttentionIdeal)
    ∧ quiescent_AttentionIdeal_pre_finite_scores (hAttentionIdeal := hAttentionIdeal) (hPre_finite_scores := hPre_finite_scores)
    ∧ quiescent_AttentionReferenceIdeal (hAttentionReferenceIdeal := hAttentionReferenceIdeal)
    ∧ quiescent_AttentionReferenceIdeal_pre_finite_scores (hAttentionReferenceIdeal := hAttentionReferenceIdeal) (hPre_finite_scores := hPre_finite_scores)
    ∧ quiescent_Dense (hDense := hDense)
    ∧ quiescent_DenseIdeal (hDenseIdeal := hDenseIdeal)
    ∧ quiescent_DenseReferenceIdeal (hDenseReferenceIdeal := hDenseReferenceIdeal)
    ∧ quiescent_Embed (hEmbed := hEmbed)
    ∧ quiescent_EmbedIdeal (hEmbedIdeal := hEmbedIdeal)
    ∧ quiescent_EmbedReferenceIdeal (hEmbedReferenceIdeal := hEmbedReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal (hKernelIdeal := hKernelIdeal) (hReferenceIdeal := hReferenceIdeal)
    ∧ preserves_Attention_AttentionIdeal
    ∧ algebraic_AttentionIdeal_AttentionReferenceIdeal_pre_finite_scores (hAttentionIdeal := hAttentionIdeal) (hAttentionReferenceIdeal := hAttentionReferenceIdeal) (hPre_finite_scores := hPre_finite_scores)
    ∧ preserves_Dense_DenseIdeal
    ∧ algebraic_DenseIdeal_DenseReferenceIdeal (hDenseIdeal := hDenseIdeal) (hDenseReferenceIdeal := hDenseReferenceIdeal)
    ∧ preserves_Embed_EmbedIdeal
    ∧ algebraic_EmbedIdeal_EmbedReferenceIdeal (hEmbedIdeal := hEmbedIdeal) (hEmbedReferenceIdeal := hEmbedReferenceIdeal)
    ∧ preserves_Project_ProjectIdeal
    ∧ algebraic_ProjectIdeal_ProjectReferenceIdeal (hProjectIdeal := hProjectIdeal) (hProjectReferenceIdeal := hProjectReferenceIdeal)
-- ==== Pre_finite_scores.lean ====
abbrev S16384x256 : Shape := ⟨2, ![16384, 256]⟩
abbrev S_ : Shape := ⟨0, ![]⟩

class Facts : Prop where
  bitsLt_bf16_f32 : FTy.bits .bf16 < FTy.bits .f32
  bcast_S_S16384x256 : S_.BroadcastsInDim S16384x256 (![] : Fin 0 → Fin S16384x256.rank)

variable [Facts]

def fn {F : FTy → Type} [FloatOps F] (main_arg0 : FVec F S16384x256 .bf16) (main_arg1 : FVec F S16384x256 .bf16) (main_arg2 : FVec F S16384x256 .bf16) (main_arg3 : FVec F S16384x256 .bf16) (main_arg4 : FVec F S16384x256 .bf16) : IVec S16384x256 1 :=
  let main_v0 : FVec F S16384x256 .f32 := (extf .f32 · bitsLt_bf16_f32) main_arg0
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_v4 : FVec F S16384x256 .f32 := (extf .f32 · bitsLt_bf16_f32) main_arg1
  let main_v5 : FVec F S16384x256 .f32 := Host.absf main_v4
  let main_cst_0 : FVec F S_ .f32 := constant S_ .f32 0x7F800000#32
  let main_v6 : FVec F S16384x256 .f32 := broadcastInDim S16384x256 ![] bcast_S_S16384x256 main_cst_0
  let main_v7 : IVec S16384x256 1 := cmpf .olt main_v5 main_v6
  let main_v8 : IVec S16384x256 1 := andi main_v3 main_v7
  let main_v9 : FVec F S16384x256 .f32 := (extf .f32 · bitsLt_bf16_f32) main_arg2
  let main_v10 : FVec F S16384x256 .f32 := Host.absf main_v9
  let main_cst_1 : FVec F S_ .f32 := constant S_ .f32 0x7F800000#32
  let main_v11 : FVec F S16384x256 .f32 := broadcastInDim S16384x256 ![] bcast_S_S16384x256 main_cst_1
  let main_v12 : IVec S16384x256 1 := cmpf .olt main_v10 main_v11
  let main_v13 : IVec S16384x256 1 := andi main_v8 main_v12
  let main_v14 : FVec F S16384x256 .f32 := (extf .f32 · bitsLt_bf16_f32) main_arg3
  let main_v15 : FVec F S16384x256 .f32 := Host.absf main_v14
  let main_cst_2 : FVec F S_ .f32 := constant S_ .f32 0x7F800000#32
  let main_v16 : FVec F S16384x256 .f32 := broadcastInDim S16384x256 ![] bcast_S_S16384x256 main_cst_2
  let main_v17 : IVec S16384x256 1 := cmpf .olt main_v15 main_v16
  let main_v18 : IVec S16384x256 1 := andi main_v13 main_v17
  main_v18
-- ==== Kernel.lean ====
abbrev S16384x1024 : Shape := ⟨2, ![16384, 1024]⟩
abbrev S8x1024x2816 : Shape := ⟨3, ![8, 1024, 2816]⟩
abbrev S8x2816x1024 : Shape := ⟨3, ![8, 2816, 1024]⟩
abbrev S512 : Shape := ⟨1, ![512]⟩
abbrev S131072x1024 : Shape := ⟨2, ![131072, 1024]⟩
abbrev S256x1024 : Shape := ⟨2, ![256, 1024]⟩
abbrev S1 : Shape := ⟨1, ![1]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 8
  | .vmem => 10
  | .smem => 2
  | _ => 0

abbrev bufTy : (tb : Table) → Fin (tcTables nBuf tb) → BufTy
  | .hbm, ⟨0, _⟩ => ⟨S16384x1024, .bf16⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S8x1024x2816, .bf16⟩
  | .hbm, ⟨5, _⟩ => ⟨S8x1024x2816, .bf16⟩
  | .hbm, ⟨6, _⟩ => ⟨S8x2816x1024, .bf16⟩
  | .hbm, ⟨7, _⟩ => ⟨S131072x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S256x1024, .f32⟩
  | .local _ .vmem, ⟨9, _⟩ => ⟨S256x1024, .f32⟩
  | .local _ .smem, ⟨0, _⟩ => ⟨S512, .i32⟩
  | .local _ .smem, ⟨1, _⟩ => ⟨S512, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![512], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S512.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S512) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S512.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S512) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S512.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S512) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S512.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S512) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x1024 : Shape := ⟨2, ![16384, 1024]⟩
abbrev S8x1024x2816 : Shape := ⟨3, ![8, 1024, 2816]⟩
abbrev S8x2816x1024 : Shape := ⟨3, ![8, 2816, 1024]⟩
abbrev S16384x8x2816 : Shape := ⟨3, ![16384, 8, 2816]⟩
abbrev S_ : Shape := ⟨0, ![]⟩
abbrev S8x16384x1024 : Shape := ⟨3, ![8, 16384, 1024]⟩
abbrev S131072x1024 : Shape := ⟨2, ![131072, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S16384x1024, .f32⟩
  | .hbm, ⟨5, _⟩ => ⟨S16384x8x2816, .f32⟩
  | .hbm, ⟨6, _⟩ => ⟨S16384x8x2816, .f32⟩
  | .hbm, ⟨7, _⟩ => ⟨S16384x8x2816, .f32⟩
  | .hbm, ⟨8, _⟩ => ⟨S_, .f32⟩
  | .hbm, ⟨9, _⟩ => ⟨S16384x8x2816, .f32⟩
  | .hbm, ⟨10, _⟩ => ⟨S16384x8x2816, .f32⟩
  | .hbm, ⟨11, _⟩ => ⟨S_, .f32⟩
  | .hbm, ⟨12, _⟩ => ⟨S16384x8x2816, .f32⟩
  | .hbm, ⟨13, _⟩ => ⟨S16384x8x2816, .f32⟩
  | .hbm, ⟨14, _⟩ => ⟨S16384x8x2816, .f32⟩
  | .hbm, ⟨15, _⟩ => ⟨S16384x8x2816, .f32⟩
  | .hbm, ⟨16, _⟩ => ⟨S16384x8x2816, .f32⟩
  | .hbm, ⟨17, _⟩ => ⟨S8x16384x1024, .f32⟩
  | .hbm, ⟨18, _⟩ => ⟨S131072x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Attention.lean ====
abbrev S16384x256 : Shape := ⟨2, ![16384, 256]⟩
abbrev S72 : Shape := ⟨1, ![72]⟩
abbrev S512x128 : Shape := ⟨2, ![512, 128]⟩
abbrev S1 : Shape := ⟨1, ![1]⟩
abbrev S2x512x1 : Shape := ⟨3, ![2, 512, 1]⟩
abbrev S2x512x128 : Shape := ⟨3, ![2, 512, 128]⟩
abbrev S1x128 : Shape := ⟨2, ![1, 128]⟩
abbrev S512x256 : Shape := ⟨2, ![512, 256]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩

abbrev nBuf : Space → Nat
  | .hbm => 6
  | .vmem => 15
  | .smem => 4
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x256, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S2x512x1, .f32⟩
  | .local _ .vmem, ⟨13, _⟩ => ⟨S2x512x1, .f32⟩
  | .local _ .vmem, ⟨14, _⟩ => ⟨S2x512x128, .f32⟩
  | .local _ .smem, ⟨0, _⟩ => ⟨S72, .i32⟩
  | .local _ .smem, ⟨1, _⟩ => ⟨S72, .i32⟩
  | .local _ .smem, ⟨2, _⟩ => ⟨S72, .i32⟩
  | .local _ .smem, ⟨3, _⟩ => ⟨S72, .i32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 72], ![false, false, false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond6 (v5 : BitVec 32) : BitVec 1 :=
  let c4_i32 : BitVec 32 := 4#32
  let v43 : BitVec 32 := Scalar.andi v5 c4_i32
  let c0_i32_21 : BitVec 32 := 0#32
  let v44 : BitVec 1 := Scalar.cmpi .ne v43 c0_i32_21
  let v45 : BitVec 32 := Scalar.extui v44
  let c0_i32_22 : BitVec 32 := 0#32
  let v46 : BitVec 1 := Scalar.cmpi .ne v45 c0_i32_22
  v46

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S72) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S72) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S72) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S72) ![v1.toNat] S1.size (k0_off1_inb i)) numel1_S1
  let v3 : BitVec 32 := Scalar.addi v0 v2
  let c0_i32 : BitVec 32 := 0#32
  ![v3.toNat, arg1.toNat]

def cc0_transform_4 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 2 (Rect.unit (s := S72) ![v1.toNat] S1.size (k0_off1_inb i)) numel1_S1
  let v3 : BitVec 32 := Scalar.addi v0 v2
  let c0_i32 : BitVec 32 := 0#32
  ![v3.toNat, arg1.toNat]

def cc0_transform_5 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S72) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttentionReferenceIdeal.lean ====
abbrev S16384x256 : Shape := ⟨2, ![16384, 256]⟩
abbrev S4x4096x4x64 : Shape := ⟨4, ![4, 4096, 4, 64]⟩
abbrev S4x4x4096x4096 : Shape := ⟨4, ![4, 4, 4096, 4096]⟩
abbrev S4x4096x2x128 : Shape := ⟨4, ![4, 4096, 2, 128]⟩
abbrev S4x4096x2x12 : Shape := ⟨4, ![4, 4096, 2, 12]⟩
abbrev S4x4096x4x6 : Shape := ⟨4, ![4, 4096, 4, 6]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x4x4096 : Shape := ⟨3, ![4, 4, 4096]⟩
abbrev S4x4x4096x1 : Shape := ⟨4, ![4, 4, 4096, 1]⟩
abbrev S4x4x64x4096 : Shape := ⟨4, ![4, 4, 64, 4096]⟩

abbrev nBuf : Space → Nat
  | .hbm => 53
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x256, .f32⟩
  | .hbm, ⟨6, _⟩ => ⟨S4x4096x4x64, .f32⟩
  | .hbm, ⟨7, _⟩ => ⟨S16384x256, .f32⟩
  | .hbm, ⟨8, _⟩ => ⟨S4x4096x4x64, .f32⟩
  | .hbm, ⟨9, _⟩ => ⟨S4x4x4096x4096, .f32⟩
  | .hbm, ⟨10, _⟩ => ⟨S16384x256, .f32⟩
  | .hbm, ⟨11, _⟩ => ⟨S4x4096x2x128, .f32⟩
  | .hbm, ⟨12, _⟩ => ⟨S4x4096x2x12, .f32⟩
  | .hbm, ⟨13, _⟩ => ⟨S4x4096x4x6, .f32⟩
  | .hbm, ⟨14, _⟩ => ⟨S16384x256, .f32⟩
  | .hbm, ⟨15, _⟩ => ⟨S4x4096x2x128, .f32⟩
  | .hbm, ⟨16, _⟩ => ⟨S4x4096x2x12, .f32⟩
  | .hbm, ⟨17, _⟩ => ⟨S4x4096x4x6, .f32⟩
  | .hbm, ⟨18, _⟩ => ⟨S4x4x4096x4096, .f32⟩
  | .hbm, ⟨19, _⟩ => ⟨S4x4x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S4x4x4096x4096, .i1⟩
  | .hbm, ⟨29, _⟩ => ⟨S4x4x4096x4096, .f32⟩
  | .hbm, ⟨30, _⟩ => ⟨S4x4x4096x4096, .f32⟩
  | .hbm, ⟨31, _⟩ => ⟨S_, .f32⟩
  | .hbm, ⟨32, _⟩ => ⟨S4x4x4096, .f32⟩
  | .hbm, ⟨33, _⟩ => ⟨S_, .f32⟩
  | .hbm, ⟨34, _⟩ => ⟨S4x4x4096, .f32⟩
  | .hbm, ⟨35, _⟩ => ⟨S4x4x4096, .f32⟩
  | .hbm, ⟨36, _⟩ => ⟨S4x4x4096x1, .f32⟩
  | .hbm, ⟨37, _⟩ => ⟨S4x4x4096x4096, .f32⟩
  | .hbm, ⟨38, _⟩ => ⟨S4x4x4096x4096, .f32⟩
  | .hbm, ⟨39, _⟩ => ⟨S4x4x4096x4096, .f32⟩
  | .hbm, ⟨40, _⟩ => ⟨S_, .f32⟩
  | .hbm, ⟨41, _⟩ => ⟨S4x4x4096, .f32⟩
  | .hbm, ⟨42, _⟩ => ⟨S4x4x4096x1, .f32⟩
  | .hbm, ⟨43, _⟩ => ⟨S4x4x4096x4096, .f32⟩
  | .hbm, ⟨44, _⟩ => ⟨S4x4x4096x4096, .f32⟩
  | .hbm, ⟨45, _⟩ => ⟨S4x4x4096x4096, .bf16⟩
  | .hbm, ⟨46, _⟩ => ⟨S4x4x4096x4096, .f32⟩
  | .hbm, ⟨47, _⟩ => ⟨S16384x256, .f32⟩
  | .hbm, ⟨48, _⟩ => ⟨S4x4096x4x64, .f32⟩
  | .hbm, ⟨49, _⟩ => ⟨S4x4x64x4096, .f32⟩
  | .hbm, ⟨50, _⟩ => ⟨S4x4096x4x64, .f32⟩
  | .hbm, ⟨51, _⟩ => ⟨S16384x256, .f32⟩
  | .hbm, ⟨52, _⟩ => ⟨S16384x256, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Dense.lean ====
abbrev S16384x1024 : Shape := ⟨2, ![16384, 1024]⟩
abbrev S1024x2816 : Shape := ⟨2, ![1024, 2816]⟩
abbrev S2816x1024 : Shape := ⟨2, ![2816, 1024]⟩
abbrev S64 : Shape := ⟨1, ![64]⟩
abbrev S1x1024x2816 : Shape := ⟨3, ![1, 1024, 2816]⟩
abbrev S1x2816x1024 : Shape := ⟨3, ![1, 2816, 1024]⟩
abbrev S256x1024 : Shape := ⟨2, ![256, 1024]⟩
abbrev S1 : Shape := ⟨1, ![1]⟩
abbrev S256x2816 : Shape := ⟨2, ![256, 2816]⟩

abbrev nBuf : Space → Nat
  | .hbm => 11
  | .vmem => 10
  | .smem => 2
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024x2816, .f32⟩
  | .hbm, ⟨5, _⟩ => ⟨S1x1024x2816, .bf16⟩
  | .hbm, ⟨6, _⟩ => ⟨S1x1024x2816, .f32⟩
  | .hbm, ⟨7, _⟩ => ⟨S1x1024x2816, .bf16⟩
  | .hbm, ⟨8, _⟩ => ⟨S1x2816x1024, .f32⟩
  | .hbm, ⟨9, _⟩ => ⟨S1x2816x1024, .bf16⟩
  | .hbm, ⟨10, _⟩ => ⟨S16384x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S256x1024, .f32⟩
  | .local _ .vmem, ⟨9, _⟩ => ⟨S256x1024, .f32⟩
  | .local _ .smem, ⟨0, _⟩ => ⟨S64, .i32⟩
  | .local _ .smem, ⟨1, _⟩ => ⟨S64, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DenseReferenceIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Embed.lean ====
abbrev S16384x1024 : Shape := ⟨2, ![16384, 1024]⟩
abbrev S8x16384x1024 : Shape := ⟨3, ![8, 16384, 1024]⟩
abbrev S16384x128 : Shape := ⟨2, ![16384, 128]⟩
abbrev S4x4096x256 : Shape := ⟨3, ![4, 4096, 256]⟩
abbrev S1024x1024 : Shape := ⟨2, ![1024, 1024]⟩
abbrev S256x1024 : Shape := ⟨2, ![256, 1024]⟩
abbrev S1024 : Shape := ⟨1, ![1024]⟩
abbrev S16384x256 : Shape := ⟨2, ![16384, 256]⟩
abbrev S1x1024 : Shape := ⟨2, ![1, 1024]⟩
abbrev S8x256x1024 : Shape := ⟨3, ![8, 256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x1024 : Shape := ⟨3, ![1, 256, 1024]⟩

abbrev nBuf : Space → Nat
  | .hbm => 13
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S8x16384x1024, .f32⟩
  | .hbm, ⟨2, _⟩ => ⟨S16384x128, .f32⟩
  | .hbm, ⟨3, _⟩ => ⟨S4x4096x256, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S16384x256, .f32⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S16384x1024, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S8x256x1024, .f32⟩
  | .local _ .vmem, ⟨3, _⟩ => ⟨S8x256x1024, .f32⟩
  | .local _ .vmem, ⟨4, _⟩ => ⟨S256x128, .f32⟩
  | .local _ .vmem, ⟨5, _⟩ => ⟨S256x128, .f32⟩
  | .local _ .vmem, ⟨6, _⟩ => ⟨S256x256, .f32⟩
  | .local _ .vmem, ⟨7, _⟩ => ⟨S256x256, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EmbedReferenceIdeal.lean ====
abbrev S16384x1024 : Shape := ⟨2, ![16384, 1024]⟩
abbrev S8x16384x1024 : Shape := ⟨3, ![8, 16384, 1024]⟩
abbrev S16384x128 : Shape := ⟨2, ![16384, 128]⟩
abbrev S4x4096x256 : Shape := ⟨3, ![4, 4096, 256]⟩
abbrev S1024x1024 : Shape := ⟨2, ![1024, 1024]⟩
abbrev S256x1024 : Shape := ⟨2, ![256, 1024]⟩
abbrev S1024 : Shape := ⟨1, ![1024]⟩
abbrev S_ : Shape := ⟨0, ![]⟩
abbrev S16384x1 : Shape := ⟨2, ![16384, 1]⟩
abbrev S1x16384x1024 : Shape := ⟨3, ![1, 16384, 1024]⟩
abbrev S16384x256 : Shape := ⟨2, ![16384, 256]⟩
abbrev S16384 : Shape := ⟨1, ![16384]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x16384x1024, .f32⟩
  | .hbm, ⟨2, _⟩ => ⟨S16384x128, .f32⟩
  | .hbm, ⟨3, _⟩ => ⟨S4x4096x256, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S_, .f32⟩
  | .hbm, ⟨8, _⟩ => ⟨S16384x1024, .f32⟩
  | .hbm, ⟨9, _⟩ => ⟨S16384x1, .f32⟩
  | .hbm, ⟨10, _⟩ => ⟨S1x16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1, .f32⟩
  | .hbm, ⟨16, _⟩ => ⟨S1x16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1, .f32⟩
  | .hbm, ⟨22, _⟩ => ⟨S1x16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1, .f32⟩
  | .hbm, ⟨28, _⟩ => ⟨S1x16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1, .f32⟩
  | .hbm, ⟨34, _⟩ => ⟨S1x16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S1x16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1, .f32⟩
  | .hbm, ⟨46, _⟩ => ⟨S1x16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1, .f32⟩
  | .hbm, ⟨52, _⟩ => ⟨S1x16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S16384x256, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_0 : Ref sig .tc := ⟨.hbm, 61, rfl⟩
abbrev main_v53 : Ref sig .tc := ⟨.hbm, 62, rfl⟩
abbrev main_v54 : Ref sig .tc := ⟨.hbm, 63, rfl⟩
abbrev main_cst_1 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_2 : Ref sig .tc := ⟨.hbm, 72, rfl⟩
abbrev main_v62 : Ref sig .tc := ⟨.hbm, 73, rfl⟩
abbrev main_v63 : Ref sig .tc := ⟨.hbm, 74, rfl⟩
abbrev main_cst_3 : Ref sig .tc := ⟨.hbm, 75, rfl⟩
abbrev main_v64 : Ref sig .tc := ⟨.hbm, 76, rfl⟩
abbrev main_v65 : Ref sig .tc := ⟨.hbm, 77, rfl⟩
abbrev main_cst_4 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩

abbrev nD : Nat := 1
abbrev τ : Topo := Topo.v7x

variable {F : FTy → Type} [FloatOps F]
-- ==== Project.lean ====
abbrev S16384x1024 : Shape := ⟨2, ![16384, 1024]⟩
abbrev S1024 : Shape := ⟨1, ![1024]⟩
abbrev S1024x2052 : Shape := ⟨2, ![1024, 2052]⟩
abbrev S4 : Shape := ⟨1, ![4]⟩
abbrev S384x1 : Shape := ⟨2, ![384, 1]⟩
abbrev S1x256 : Shape := ⟨2, ![1, 256]⟩
abbrev S1024x768 : Shape := ⟨2, ![1024, 768]⟩
abbrev S1024x1280 : Shape := ⟨2, ![1024, 1280]⟩
abbrev S1024x4 : Shape := ⟨2, ![1024, 4]⟩
abbrev S_ : Shape := ⟨0, ![]⟩
abbrev S1024x128 : Shape := ⟨2, ![1024, 128]⟩
abbrev S1024x2176 : Shape := ⟨2, ![1024, 2176]⟩
abbrev S128 : Shape := ⟨1, ![128]⟩
abbrev S1x128 : Shape := ⟨2, ![1, 128]⟩
abbrev S1x1024 : Shape := ⟨2, ![1, 1024]⟩
abbrev S4x1x128 : Shape := ⟨3, ![4, 1, 128]⟩
abbrev S512x512 : Shape := ⟨2, ![512, 512]⟩
abbrev S256 : Shape := ⟨1, ![256]⟩
abbrev S384x256 : Shape := ⟨2, ![384, 256]⟩
abbrev S16384x256 : Shape := ⟨2, ![16384, 256]⟩
abbrev S16384x128 : Shape := ⟨2, ![16384, 128]⟩
abbrev S16384x1280 : Shape := ⟨2, ![16384, 1280]⟩
abbrev S512x1024 : Shape := ⟨2, ![512, 1024]⟩
abbrev S1x1x128 : Shape := ⟨3, ![1, 1, 128]⟩
abbrev S512x256 : Shape := ⟨2, ![512, 256]⟩
abbrev S512x128 : Shape := ⟨2, ![512, 128]⟩
abbrev S512x1280 : Shape := ⟨2, ![512, 1280]⟩
abbrev S512 : Shape := ⟨1, ![512]⟩
abbrev S512x1 : Shape := ⟨2, ![512, 1]⟩
abbrev S1024x256 : Shape := ⟨2, ![1024, 256]⟩
abbrev S512x384 : Shape := ⟨2, ![512, 384]⟩

abbrev nBuf : Space → Nat
  | .hbm => 63
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2052, .f32⟩
  | .hbm, ⟨3, _⟩ => ⟨S4, .f32⟩
  | .hbm, ⟨4, _⟩ => ⟨S384x1, .i32⟩
  | .hbm, ⟨5, _⟩ => ⟨S384x1, .i32⟩
  | .hbm, ⟨6, _⟩ => ⟨S1x256, .f32⟩
  | .hbm, ⟨7, _⟩ => ⟨S1x256, .f32⟩
  | .hbm, ⟨8, _⟩ => ⟨S1024x768, .f32⟩
  | .hbm, ⟨9, _⟩ => ⟨S1024x1280, .f32⟩
  | .hbm, ⟨10, _⟩ => ⟨S1024x4, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x2176, .f32⟩
  | .hbm, ⟨15, _⟩ => ⟨S1024x2176, .bf16⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S1x1024, .f32⟩
  | .hbm, ⟨21, _⟩ => ⟨S_, .f32⟩
  | .hbm, ⟨22, _⟩ => ⟨S4x1x128, .f32⟩
  | .hbm, ⟨23, _⟩ => ⟨S_, .bf16⟩
  | .hbm, ⟨24, _⟩ => ⟨S512x512, .bf16⟩
  | .hbm, ⟨25, _⟩ => ⟨S512x512, .i32⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S_, .bf16⟩
  | .hbm, ⟨32, _⟩ => ⟨S512x512, .bf16⟩
  | .hbm, ⟨33, _⟩ => ⟨S512x512, .bf16⟩
  | .hbm, ⟨34, _⟩ => ⟨S256, .i32⟩
  | .hbm, ⟨35, _⟩ => ⟨S1x256, .i32⟩
  | .hbm, ⟨36, _⟩ => ⟨S384x256, .i32⟩
  | .hbm, ⟨37, _⟩ => ⟨S384x256, .i32⟩
  | .hbm, ⟨38, _⟩ => ⟨S384x256, .i1⟩
  | .hbm, ⟨39, _⟩ => ⟨S_, .f32⟩
  | .hbm, ⟨40, _⟩ => ⟨S_, .f32⟩
  | .hbm, ⟨41, _⟩ => ⟨S384x256, .f32⟩
  | .hbm, ⟨42, _⟩ => ⟨S384x256, .f32⟩
  | .hbm, ⟨43, _⟩ => ⟨S384x256, .f32⟩
  | .hbm, ⟨44, _⟩ => ⟨S384x256, .i32⟩
  | .hbm, ⟨45, _⟩ => ⟨S384x256, .i32⟩
  | .hbm, ⟨46, _⟩ => ⟨S384x256, .i1⟩
  | .hbm, ⟨47, _⟩ => ⟨S_, .f32⟩
  | .hbm, ⟨48, _⟩ => ⟨S_, .f32⟩
  | .hbm, ⟨49, _⟩ => ⟨S384x256, .f32⟩
  | .hbm, ⟨50, _⟩ => ⟨S384x256, .f32⟩
  | .hbm, ⟨51, _⟩ => ⟨S384x256, .f32⟩
  | .hbm, ⟨52, _⟩ => ⟨S384x256, .bf16⟩
  | .hbm, ⟨53, _⟩ => ⟨S384x256, .bf16⟩
  | .hbm, ⟨54, _⟩ => ⟨S16384x256, .bf16⟩
  | .hbm, ⟨55, _⟩ => ⟨S16384x256, .f32⟩
  | .hbm, ⟨56, _⟩ => ⟨S16384x256, .f32⟩
  | .hbm, ⟨57, _⟩ => ⟨S16384x256, .bf16⟩
  | .hbm, ⟨58, _⟩ => ⟨S16384x256, .bf16⟩
  | .hbm, ⟨59, _⟩ => ⟨S16384x128, .f32⟩
  | .hbm, ⟨60, _⟩ => ⟨S16384x256, .bf16⟩
  | .hbm, ⟨61, _⟩ => ⟨S16384x256, .bf16⟩
  | .hbm, ⟨62, _⟩ => ⟨S16384x1280, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1x128, .f32⟩
  | .local _ .vmem, ⟨5, _⟩ => ⟨S1x1x128, .f32⟩
  | .local _ .vmem, ⟨6, _⟩ => ⟨S1x1x128, .f32⟩
  | .local _ .vmem, ⟨7, _⟩ => ⟨S512x512, .bf16⟩
  | .local _ .vmem, ⟨8, _⟩ => ⟨S384x256, .bf16⟩
  | .local _ .vmem, ⟨9, _⟩ => ⟨S384x256, .bf16⟩
  | .local _ .vmem, ⟨10, _⟩ => ⟨S1x256, .f32⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x128, .f32⟩
  | .local _ .vmem, ⟨23, _⟩ => ⟨S512x128, .f32⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x1280, .f32⟩
  | .local _ .vmem, ⟨29, _⟩ => ⟨S512x1280, .f32⟩
  | .local _ .vmem, ⟨30, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_3 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_call2_v0 : Ref sig .tc := ⟨.hbm, 25, rfl⟩
abbrev main_call2_c : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_cst : Ref sig .tc := ⟨.hbm, 31, rfl⟩
abbrev main_call2_v5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_6 : Ref sig .tc := ⟨.hbm, 39, rfl⟩
abbrev main_cst_7 : Ref sig .tc := ⟨.hbm, 40, rfl⟩
abbrev main_call3_v0 : Ref sig .tc := ⟨.hbm, 41, rfl⟩
abbrev main_call3_v1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_8 : Ref sig .tc := ⟨.hbm, 47, rfl⟩
abbrev main_cst_9 : Ref sig .tc := ⟨.hbm, 48, rfl⟩
abbrev main_call4_v0 : Ref sig .tc := ⟨.hbm, 49, rfl⟩
abbrev main_call4_v1 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24_0 : Ref sig .tc := ⟨.hbm, 54, rfl⟩
abbrev main_v24_1 : Ref sig .tc := ⟨.hbm, 55, rfl⟩
abbrev main_v24_2 : Ref sig .tc := ⟨.hbm, 56, rfl⟩
abbrev main_v24_3 : Ref sig .tc := ⟨.hbm, 57, rfl⟩
abbrev main_v24_4 : Ref sig .tc := ⟨.hbm, 58, rfl⟩
abbrev main_v24_5 : Ref sig .tc := ⟨.hbm, 59, rfl⟩
abbrev main_v24_6 : Ref sig .tc := ⟨.hbm, 60, rfl⟩
abbrev main_v24_7 : Ref sig .tc := ⟨.hbm, 61, rfl⟩
abbrev main_v24_8 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1280 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjectReferenceIdeal.lean ====
abbrev S16384x1024 : Shape := ⟨2, ![16384, 1024]⟩
abbrev S1024 : Shape := ⟨1, ![1024]⟩
abbrev S1024x2052 : Shape := ⟨2, ![1024, 2052]⟩
abbrev S4 : Shape := ⟨1, ![4]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2052 : Shape := ⟨2, ![16384, 2052]⟩
abbrev S16384x256 : Shape := ⟨2, ![16384, 256]⟩
abbrev S16384x4 : Shape := ⟨2, ![16384, 4]⟩
abbrev S1x4 : Shape := ⟨2, ![1, 4]⟩
abbrev S16384x128 : Shape := ⟨2, ![16384, 128]⟩
abbrev S16384x1280 : Shape := ⟨2, ![16384, 1280]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2052, .f32⟩
  | .hbm, ⟨3, _⟩ => ⟨S4, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2052, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S16384x4, .f32⟩
  | .hbm, ⟨25, _⟩ => ⟨S1x4, .f32⟩
  | .hbm, ⟨26, _⟩ => ⟨S16384x4, .f32⟩
  | .hbm, ⟨27, _⟩ => ⟨S16384x4, .f32⟩
  | .hbm, ⟨28, _⟩ => ⟨S16384x4, .f32⟩
  | .hbm, ⟨29, _⟩ => ⟨S_, .f32⟩
  | .hbm, ⟨30, _⟩ => ⟨S16384x4, .f32⟩
  | .hbm, ⟨31, _⟩ => ⟨S16384x4, .f32⟩
  | .hbm, ⟨32, _⟩ => ⟨S16384x4, .f32⟩
  | .hbm, ⟨33, _⟩ => ⟨S16384x4, .f32⟩
  | .hbm, ⟨34, _⟩ => ⟨S16384x4, .i1⟩
  | .hbm, ⟨35, _⟩ => ⟨S16384x4, .f32⟩
  | .hbm, ⟨36, _⟩ => ⟨S16384x4, .f32⟩
  | .hbm, ⟨37, _⟩ => ⟨S16384x4, .f32⟩
  | .hbm, ⟨38, _⟩ => ⟨S16384x4, .f32⟩
  | .hbm, ⟨39, _⟩ => ⟨S16384x4, .f32⟩
  | .hbm, ⟨40, _⟩ => ⟨S16384x4, .f32⟩
  | .hbm, ⟨41, _⟩ => ⟨S16384x4, .f32⟩
  | .hbm, ⟨42, _⟩ => ⟨S16384x4, .f32⟩
  | .hbm, ⟨43, _⟩ => ⟨S16384x4, .f32⟩
  | .hbm, ⟨44, _⟩ => ⟨S_, .i32⟩
  | .hbm, ⟨45, _⟩ => ⟨S_, .f32⟩
  | .hbm, ⟨46, _⟩ => ⟨S16384x128, .f32⟩
  | .hbm, ⟨47, _⟩ => ⟨S_, .f32⟩
  | .hbm, ⟨48, _⟩ => ⟨S16384x256, .f32⟩
  | .hbm, ⟨49, _⟩ => ⟨S16384x256, .f32⟩
  | .hbm, ⟨50, _⟩ => ⟨S16384x256, .bf16⟩
  | .hbm, ⟨51, _⟩ => ⟨S16384x256, .bf16⟩
  | .hbm, ⟨52, _⟩ => ⟨S16384x256, .bf16⟩
  | .hbm, ⟨53, _⟩ => ⟨S16384x1280, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_c : Ref sig .tc := ⟨.hbm, 44, rfl⟩
abbrev main_call1_v0 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩

abbrev nD : Nat := 1
abbrev τ : Topo := Topo.v7x

variable {F : FTy → Type} [FloatOps F]
-- ==== Proof.KernelIdeal.Tables.lean ====
/- The two prefetched tables of the feed-forward call, read back from the constants the host line writes: at tile `t`
   the first table names expert `t / 64`, the second token tile `t % 64`. From these closed forms: the block index
   of every window at every grid point, and the pipeline's side condition (each such block inside its array). -/
module

public import proofs.«01_k».proof.Proof.Gen.KernelIdeal.Frame.Runs
public import Idealize.ShloMosaic.Lib.Claim

@[expose] public section

set_option maxRecDepth 16384

noncomputable section

namespace Cert.KernelIdeal.Ffn

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The first constant: expert `t / 64`. -/
theorem lit0_val : ∀ t : Fin 512, (lit0 t).toNat = t.val / 64 := by decide +kernel

/-- The second constant: token tile `t % 64`. -/
theorem lit1_val : ∀ t : Fin 512, (lit1 t).toNat = t.val % 64 := by decide +kernel

/-- The first table holds the first constant. -/
theorem tbl0 : tbl m 0 = fun i => lit0 (S512.rowMajor i) := by
  show V m (0 : Dev nD) main_c = _
  entry_read
  rfl

/-- The second table holds the second constant. -/
theorem tbl1 : tbl m 1 = fun i => lit1 (S512.rowMajor i) := by
  show V m (0 : Dev nD) main_c_0 = _
  entry_read
  rfl

/-- The table element an index map reads at a grid point is the point's own. -/
theorem read_pos (i : grid0.Coords) (h : S1.numel = 1) (hb : ∀ a, (k0_off1 i) a + S1.size a ≤ S512.size a) :
    (S512.rowMajor ((Rect.unit (s := S512) (k0_off1 i) S1.size hb).emb (Shape.Idx.first (h.symm ▸ Nat.one_pos)))).val
      = (i 0).val := by
  have hi : (i 0).val < 512 := (i 0).isLt
  rw [Shape.rowMajor_val_one]
  show (BitVec.ofNat 32 (i 0).val).toNat + 1 * 0 = _
  rw [BitVec.toNat_ofNat]
  omega

/-- The token tiles' window is at block row `t % 64`. -/
theorem map0 (i : grid0.Coords) : cc0_transform_0 k0_off1_inb numel1_S1 (tbl m) i = ![(i 0).val % 64, 0] := by
  unfold cc0_transform_0
  simp only [Pipeline.Prefetch.Contents.at, tbl1]
  funext a
  fin_cases a
  · exact (lit1_val _).trans (congrArg (· % 64) (read_pos i numel1_S1 (k0_off1_inb i)))
  · rfl

/-- The gate weights' window is at expert `t / 64`, -/
theorem map1 (i : grid0.Coords) : cc0_transform_1 k0_off1_inb numel1_S1 (tbl m) i = ![(i 0).val / 64, 0, 0] := by
  unfold cc0_transform_1
  simp only [Pipeline.Prefetch.Contents.at, tbl0]
  funext a
  fin_cases a
  · exact (lit0_val _).trans (congrArg (· / 64) (read_pos i numel1_S1 (k0_off1_inb i)))
  · rfl
  · rfl

/-- as are the up weights' -/
theorem map2 (i : grid0.Coords) : cc0_transform_2 k0_off1_inb numel1_S1 (tbl m) i = ![(i 0).val / 64, 0, 0] :=
  map1 m i

/-- and the down weights'. -/
theorem map3 (i : grid0.Coords) : cc0_transform_3 k0_off1_inb numel1_S1 (tbl m) i = ![(i 0).val / 64, 0, 0] :=
  map1 m i

/-- One expert's matrix of even height `p` is a block of the stack of eight, made of whole words. -/
theorem weights (i : grid0.Coords) (p q : Nat) (hp : 2 ∣ p) :
    ∃ h : (∀ a : Fin 3, ((![(i 0).val / 64, 0, 0] : Fin 3 → Nat) a + 1) * (![1, p, q] : Fin 3 → Nat) a ≤ (![8, p, q] : Fin 3 → Nat) a),
      EltTy.bits .bf16 = 32
        ∨ (Rect.block (s := ⟨3, ![8, p, q]⟩) ![1, p, q] ![(i 0).val / 64, 0, 0] h).WholeWords (EltTy.packing .bf16) := by
  have hi : (i 0).val < 512 := (i 0).isLt
  refine ⟨fun a => ?_, .inr (Rect.PackedRows.wholeWords (.inr ⟨Nat.le_succ 2, rfl, .inl ⟨?_, hp⟩⟩))⟩
  · fin_cases a
    · show ((i 0).val / 64 + 1) * 1 ≤ 8
      omega
    · show (0 + 1) * p ≤ p
      omega
    · show (0 + 1) * q ≤ q
      omega
  · exact ⟨0, Nat.zero_mul _⟩

/-- Every block the tables name is inside its array, its transfer made of whole words. -/
theorem ok : Ok m := by
  refine ⟨fun i => ?_, fun i => ?_, fun i => ?_, fun i => ?_⟩
  · simp only [map0]
    have hi : (i 0).val < 512 := (i 0).isLt
    refine ⟨fun a => ?_, .inr (Rect.PackedRows.wholeWords (.inr ⟨by decide, rfl, .inl ⟨?_, ?_⟩⟩))⟩
    · fin_cases a
      · show ((i 0).val % 64 + 1) * 256 ≤ 16384
        omega
      · show (0 + 1) * 1024 ≤ 1024
        omega
    · show 2 ∣ (i 0).val % 64 * 256
      omega
    · exact ⟨128, rfl⟩
  · simp only [map1]; exact weights i 1024 2816 ⟨512, rfl⟩
  · simp only [map2]; exact weights i 1024 2816 ⟨512, rfl⟩
  · simp only [map3]; exact weights i 2816 1024 ⟨1408, rfl⟩

end Cert.KernelIdeal.Ffn

end
-- ==== Proof.KernelIdeal.Experts.lean ====
/- What one grid point of the feed-forward call computes, and what the reference computes, read at one index: both are
   `Σ_f (g_f · (1 / (1 + e^{-g_f})) · u_f) · D[e, f, o]`, with `g = Σ_d X[t, d] · G[e, d, f]` and
   `u = Σ_d X[t, d] · U[e, d, f]`. -/
module

public import proofs.«01_k».proof.Proof.Gen.KernelIdeal.Skeleton
public import proofs.«01_k».proof.Proof.Gen.ReferenceIdeal.Run
public import Idealize.ShloMosaic.Lib.Pointwise

@[expose] public section

set_option maxRecDepth 16384

noncomputable section

namespace Cert.KernelIdeal.Ffn

open Idealize.ShloMosaic Idealize.ShloMosaic.TcCoe Idealize.SL.Sem
open Cert.KernelIdeal Cert.KernelIdeal.Gen

/-- One expert of the layer on one token: `(silu (x W_g) * (x W_u)) W_d` at output column `o`. -/
def swiglu (x : Fin 1024 → EReal) (g u : Fin 1024 → Fin 2816 → EReal) (d : Fin 2816 → EReal) : EReal :=
  ∑ f : Fin 2816, ((∑ k, x k * g k f) * Ideal.div 1 (1 + Ideal.exp (-(∑ k, x k * g k f))) * (∑ k, x k * u k f)) * d f

/-- What the kernel's body stores at row `r`, column `o` of its block. -/
theorem body_at (x : FVec Ideal S256x1024 .bf16) (g u : FVec Ideal S1x1024x2816 .bf16) (d : FVec Ideal S1x2816x1024 .bf16)
    (r : Fin 256) (o : Fin 1024) :
    k0_pay1 (F := Ideal) x g u d (ix2 r o)
      = swiglu (fun k => x (ix2 r k)) (fun k f => g (ix3 0 k f)) (fun k f => u (ix3 0 k f)) (fun f => d (ix3 0 f o)) := by
  pointwise [k0_pay1, swiglu]
  simp only [zero_sub]

/-- The reference's composed term. -/
abbrev REF (X : FVec Ideal Cert.ReferenceIdeal.S16384x1024 .bf16) (G U : FVec Ideal Cert.ReferenceIdeal.S8x1024x2816 .f32)
    (D : FVec Ideal Cert.ReferenceIdeal.S8x2816x1024 .f32) : FVec Ideal Cert.ReferenceIdeal.S131072x1024 .f32 :=
  open Cert.ReferenceIdeal Cert.ReferenceIdeal.Gen in
  shapeCast Cert.ReferenceIdeal.S131072x1024 (Host.dotGeneral (φ₁ := .f32) (φ₂ := .f32) Cert.ReferenceIdeal.dot_S16384x8x2816_S8x2816x1024_S8x16384x1024_2_1_0_2_1_0 none (mulf (mulf (Host.dotGeneral (φ₁ := .f32) (φ₂ := .f32) Cert.ReferenceIdeal.dot_S16384x1024_S8x1024x2816_S16384x8x2816_1_1_0_02_n_n none (extf .f32 X Cert.ReferenceIdeal.Gen.bitsLt_bf16_f32) G) (Host.divf (broadcastInDim Cert.ReferenceIdeal.S16384x8x2816 ![] Cert.ReferenceIdeal.Gen.bcast_S_S16384x8x2816 (constant Cert.ReferenceIdeal.S_ .f32 0x3F800000#32)) (addf (broadcastInDim Cert.ReferenceIdeal.S16384x8x2816 ![] Cert.ReferenceIdeal.Gen.bcast_S_S16384x8x2816 (constant Cert.ReferenceIdeal.S_ .f32 0x3F800000#32)) (Host.exp (Host.negf (Host.dotGeneral (φ₁ := .f32) (φ₂ := .f32) Cert.ReferenceIdeal.dot_S16384x1024_S8x1024x2816_S16384x8x2816_1_1_0_02_n_n none (extf .f32 X Cert.ReferenceIdeal.Gen.bitsLt_bf16_f32) G)))))) (Host.dotGeneral (φ₁ := .f32) (φ₂ := .f32) Cert.ReferenceIdeal.dot_S16384x1024_S8x1024x2816_S16384x8x2816_1_1_0_02_n_n none (extf .f32 X Cert.ReferenceIdeal.Gen.bitsLt_bf16_f32) U)) D) Cert.ReferenceIdeal.Gen.shapeCasts_S8x16384x1024_S131072x1024

/-- The reference at row `i` (token `i % 16384` under expert `i / 16384`), column `o`. -/
theorem ref_at (X : FVec Ideal Cert.ReferenceIdeal.S16384x1024 .bf16) (G U : FVec Ideal Cert.ReferenceIdeal.S8x1024x2816 .f32)
    (D : FVec Ideal Cert.ReferenceIdeal.S8x2816x1024 .f32) (i : Fin 131072) (o : Fin 1024)
    (e : Fin 8) (t : Fin 16384) (he : i.val / 16384 = e.val) (ht : i.val % 16384 = t.val) :
    REF X G U D (ix2 i o)
      = swiglu (fun k => X (ix2 t k)) (fun k f => G (ix3 e k f)) (fun k f => U (ix3 e k f)) (fun f => D (ix3 e f o)) := by
  pointwise [REF, swiglu]
  simp only [ht, he]

end Cert.KernelIdeal.Ffn

end
-- ==== Proof.KernelIdeal.Value.lean ====
/- What the feed-forward call leaves in its result: row tile `t` of the result holds the expert `t / 64` applied to the
   token tile `t % 64`, so the whole array is the reference's. -/
module

public import proofs.«01_k».proof.Proof.Gen.KernelIdeal.Frame
public import proofs.«01_k».proof.Proof.KernelIdeal.Tables
public import proofs.«01_k».proof.Proof.KernelIdeal.Experts
public import Idealize.ShloMosaic.Lib.Pipeline.ValueKit
public import Idealize.ShloMosaic.Lib.Pipeline.Covers

@[expose] public section

set_option maxRecDepth 16384

noncomputable section

namespace Cert.KernelIdeal.Ffn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The grid's coordinate at a point is the point itself. -/
theorem coords (t : Fin grid0.N) : (grid0.coords t 0).val = t.val := by
  have ht : t.val < 512 := t.isLt
  rw [Pipeline.Grid.coords_val t 0 (S := 1) (B := 512) (by decide) rfl]
  omega

theorem idx0 (t : Fin grid0.N) : ((cfgM m (ok m)).win 0).index t = ![t.val % 64, 0] := by
  have := map0 m (grid0.coords t)
  rw [coords] at this
  exact this

theorem idx1 (t : Fin grid0.N) : ((cfgM m (ok m)).win 1).index t = ![t.val / 64, 0, 0] := by
  have := map1 m (grid0.coords t)
  rw [coords] at this
  exact this

theorem idx2 (t : Fin grid0.N) : ((cfgM m (ok m)).win 2).index t = ![t.val / 64, 0, 0] := by
  have := map2 m (grid0.coords t)
  rw [coords] at this
  exact this

theorem idx3 (t : Fin grid0.N) : ((cfgM m (ok m)).win 3).index t = ![t.val / 64, 0, 0] := by
  have := map3 m (grid0.coords t)
  rw [coords] at this
  exact this

theorem idx4 (t : Fin grid0.N) : ((cfgM m (ok m)).win 4).index t = ![t.val, 0] := by
  have h : ((cfgM m (ok m)).win 4).index t = ![(grid0.coords t 0).val, 0] := by
    funext a
    have hi : (grid0.coords t 0).val < 512 := (grid0.coords t 0).isLt
    fin_cases a
    · show (BitVec.ofNat 32 (grid0.coords t 0).val).toNat = _
      rw [BitVec.toNat_ofNat]
      show _ = (grid0.coords t 0).val
      omega
    · rfl
  rw [h, coords]

/-- The rounded weights the call is given are, in exact arithmetic, the weights. -/
theorem V0 : V m c main_v0 = m ⟨c, main_arg1⟩ := by
  entry_read
  funext i
  rfl

theorem V1 : V m c main_v1 = m ⟨c, main_arg2⟩ := by
  entry_read
  funext i
  rfl

theorem V2 : V m c main_v2 = m ⟨c, main_arg3⟩ := by
  entry_read
  funext i
  rfl

/-- The block of the tokens at a point: token tile `t % 64`. -/
theorem blk0 (t : Fin grid0.N) (r : Fin 256) (k : Fin 1024) (q : Fin 16384) (hq : q.val = t.val % 64 * 256 + r.val) :
    iblk m (ok m) c 0 t (ix2 r k) = m ⟨c, main_arg0⟩ (ix2 q k) := by
  refine (congrArg (V m c main_arg0) (?_ : _ = ix2 q k)).trans (congrFun (V_main_arg0 m c) _)
  funext a
  apply Fin.ext
  have h := Pipeline.Window.rect_emb_val ((cfgM m (ok m)).win 0) t (ix2 r k) a
  rw [idx0] at h
  refine Eq.trans h ?_
  fin_cases a
  · exact hq.symm
  · exact Nat.zero_add _

/-- The block of the gate weights: expert `t / 64`. -/
theorem blk1 (t : Fin grid0.N) (k : Fin 1024) (f : Fin 2816) (e : Fin 8) (he : e.val = t.val / 64) :
    iblk m (ok m) c 1 t (ix3 0 k f) = m ⟨c, main_arg1⟩ (ix3 e k f) := by
  refine (congrArg (V m c main_v0) (?_ : _ = ix3 e k f)).trans (congrFun (V0 m c) _)
  funext a
  apply Fin.ext
  have h := Pipeline.Window.rect_emb_val ((cfgM m (ok m)).win 1) t (ix3 0 k f) a
  rw [idx1] at h
  refine Eq.trans h ?_
  fin_cases a
  · exact ((Nat.mul_one _).trans he.symm)
  · exact Nat.zero_add _
  · exact Nat.zero_add _

/-- The block of the up weights. -/
theorem blk2 (t : Fin grid0.N) (k : Fin 1024) (f : Fin 2816) (e : Fin 8) (he : e.val = t.val / 64) :
    iblk m (ok m) c 2 t (ix3 0 k f) = m ⟨c, main_arg2⟩ (ix3 e k f) := by
  refine (congrArg (V m c main_v1) (?_ : _ = ix3 e k f)).trans (congrFun (V1 m c) _)
  funext a
  apply Fin.ext
  have h := Pipeline.Window.rect_emb_val ((cfgM m (ok m)).win 2) t (ix3 0 k f) a
  rw [idx2] at h
  refine Eq.trans h ?_
  fin_cases a
  · exact ((Nat.mul_one _).trans he.symm)
  · exact Nat.zero_add _
  · exact Nat.zero_add _

/-- The block of the down weights. -/
theorem blk3 (t : Fin grid0.N) (f : Fin 2816) (o : Fin 1024) (e : Fin 8) (he : e.val = t.val / 64) :
    iblk m (ok m) c 3 t (ix3 0 f o) = m ⟨c, main_arg3⟩ (ix3 e f o) := by
  refine (congrArg (V m c main_v2) (?_ : _ = ix3 e f o)).trans (congrFun (V2 m c) _)
  funext a
  apply Fin.ext
  have h := Pipeline.Window.rect_emb_val ((cfgM m (ok m)).win 3) t (ix3 0 f o) a
  rw [idx3] at h
  refine Eq.trans h ?_
  fin_cases a
  · exact ((Nat.mul_one _).trans he.symm)
  · exact Nat.zero_add _
  · exact Nat.zero_add _

/-- Every row tile of the result is some point's block. -/
theorem covers4 : ((cfgM m (ok m)).win 4).Covers := by
  have hs : ∀ a : Fin 2, 0 < (![256, 1024] : Fin 2 → Nat) a := by decide
  refine Pipeline.Window.covers_of_index_surj _ rfl hs fun β => ?_
  have h0 : (β (0 : Fin 2)).val < 512 := lt_of_lt_of_eq (β (0 : Fin 2)).isLt (by decide : (131072 + 256 - 1) / 256 = 512)
  have h1 : (β (1 : Fin 2)).val < 1 := lt_of_lt_of_eq (β (1 : Fin 2)).isLt (by decide : (1024 + 1024 - 1) / 1024 = 1)
  refine ⟨⟨(β (0 : Fin 2)).val, h0⟩, ?_⟩
  rw [idx4]
  show ∀ a : Fin 2, (![(β (0 : Fin 2)).val, 0] : Fin 2 → Nat) a = β a
  intro a
  fin_cases a
  · rfl
  · exact (Nat.lt_one_iff.mp h1).symm

/-- What the body leaves in the result's block: its one store over the input blocks. -/
theorem outs (t : Fin grid0.N) : outsAt0 m (ok m) c t
    = k0_pay1 (F := Ideal) (iblk m (ok m) c 0 t) (iblk m (ok m) c 1 t) (iblk m (ok m) c 2 t) (iblk m (ok m) c 3 t) := by
  unfold outsAt0
  generalize iblk m (ok m) c 0 t = x0, iblk m (ok m) c 1 t = x1, iblk m (ok m) c 2 t = x2, iblk m (ok m) c 3 t = x3
  revert x0 x1 x2 x3
  show ∀ (x0 : Vec Ideal S256x1024 .bf16) (x1 x2 : Vec Ideal S1x1024x2816 .bf16) (x3 : Vec Ideal S1x2816x1024 .bf16), _
  intro x0 x1 x2 x3
  frame_out

/-- The result array after the run. -/
theorem final : (dats m (ok m) 0 c).arrAt 4 (cfgM m (ok m)).N
    = REF (m ⟨c, main_arg0⟩) (m ⟨c, main_arg1⟩) (m ⟨c, main_arg2⟩) (m ⟨c, main_arg3⟩) := by
  refine (dats m (ok m) 0 c).arrAt_eq_of_covers 4 _ (covers4 m) fun t hf y => ?_
  rw [after0_4, outs]
  revert y
  intro (y : S256x1024.Idx)
  idx_vars y
  have ht : t.val < 512 := t.isLt
  let i : Fin 131072 := ⟨t.val * 256 + y0.val, by omega⟩
  let e : Fin 8 := ⟨t.val / 64, by omega⟩
  let q : Fin 16384 := ⟨t.val % 64 * 256 + y0.val, by omega⟩
  have hi : (((cfgM m (ok m)).win 4).blk t).view.emb (ix2 y0 y1) = ix2 i y1 := by
    funext a
    apply Fin.ext
    have h := Pipeline.Window.rect_emb_val ((cfgM m (ok m)).win 4) t (ix2 y0 y1) a
    rw [idx4] at h
    refine Eq.trans h ?_
    fin_cases a
    · rfl
    · exact Nat.zero_add _
  refine Eq.trans ?_ (congrArg (REF _ _ _ _) hi.symm)
  rw [ref_at _ _ _ _ i y1 e q (by show (t.val * 256 + y0.val) / 16384 = t.val / 64; omega)
    (by show (t.val * 256 + y0.val) % 16384 = t.val % 64 * 256 + y0.val; omega)]
  refine (body_at _ _ _ _ y0 y1).trans ?_
  congr 1
  · funext k; exact blk0 m c t y0 k q rfl
  · funext k f; exact blk1 m c t k f e rfl
  · funext k f; exact blk2 m c t k f e rfl
  · funext f; exact blk3 m c t f y1 e rfl

/-- The run: the result is the reference's term over the arguments, which end unchanged. -/
theorem run (ρ : Dev nD → PrngReg) : θ_run defs (onTc (τ := τ) (main (F := Ideal))) ⟨m, fun _ => 0, ρ⟩ fun r => ∀ c : Dev nD,
    r.2.mem ((c.tc : Thread nD τ).loc main_v3)
        = REF (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final m c), h.2 c⟩)
    (θ_run_and (run_main m ρ (ok m)) (unchanged m ρ (ok m)))

end Cert.KernelIdeal.Ffn

end
-- ==== Proof.Attention.Setup.lean ====
/- The attention call up to its launch: the four step tables the host lines write, the pipeline at these tables, and
   the facts about its 576 grid points that the certificate uses. A point's flag word says which of the six kinds of
   step it is; the output block is stored, and written back, exactly at the points with flag word 13. -/
module

public import proofs.«01_k».proof.Proof.Gen.Attention.Launch
public import proofs.«01_k».proof.Proof.Gen.Attention.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Decide
public import Idealize.ShloMosaic.Lib.Affine
public import Idealize.ShloMosaic.PureOps.BitExact
public import Idealize.ShloMosaic.Lib.Claim

@[expose] public section

set_option maxRecDepth 16384

noncomputable section

namespace Cert.Attention.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attention Cert.Attention.Gen

local notation "𝕄" => MT nD τ sig Unit (Elt Bits) ℕ (UR sig nD τ) ℕ

variable (m : (ℓ : Loc nD τ sig) → Buf (Elt Bits) ℓ)

/-! ## The buffers when the pipeline starts -/

/-- Core `c`'s buffers after the host lines. -/
abbrev V (c : Dev nD) (b : Ref sig .tc) : Buf (Elt Bits) ((c : Thread nD τ).loc b) :=
  StableHlo.after hostOps0 (fun b => m (c, b)) b

theorem hostOps0_fresh : (hostOps0 : List (HloOp τ sig (Elt Bits))).Forall fun op => op.fresh = ∅ := by
  simp only [List.Forall]; repeat' constructor

set_option maxHeartbeats 800000 in
/-- The main program is the host lines, then the pipeline. -/
theorem hmain : Pipeline.HMainP (Ix := Unit) (Name := ℕ) (U := UR sig nD τ) (Lvl := ℕ) pcfgs 0 defs₀ Variants.none m
    (main (F := Bits)) (V m) :=
  Pipeline.hmainP_prefix pcfgs 0 defs₀ Variants.none m main hostOps0 hostOps0_sub hostOps0_fresh main_chain

/-- A buffer that is none of the four tables is as launched. -/
theorem V_of_ne (c : Dev nD) (b : Ref sig .tc) (h0 : b ≠ main_c) (h1 : b ≠ main_c_0) (h2 : b ≠ main_c_1)
    (h3 : b ≠ main_c_2) : V m c b = m ((c : Thread nD τ).loc b) :=
  StableHlo.after_of_forall_not_mem (b := Proc.devRef .tc b) _ _ (List.forall_iff_forall_mem.mp (by
    simp only [hostOps0, List.Forall, StableHlo.nullary_writes, Finset.mem_singleton]
    exact ⟨StableHlo.devRef_ne_of_ne h0, StableHlo.devRef_ne_of_ne h1, StableHlo.devRef_ne_of_ne h2,
      StableHlo.devRef_ne_of_ne h3⟩))

theorem V_arg0 (c : Dev nD) : V m c main_arg0 = m ((c : Thread nD τ).loc main_arg0) :=
  V_of_ne m c _ (by decide) (by decide) (by decide) (by decide)
theorem V_arg1 (c : Dev nD) : V m c main_arg1 = m ((c : Thread nD τ).loc main_arg1) :=
  V_of_ne m c _ (by decide) (by decide) (by decide) (by decide)
theorem V_arg2 (c : Dev nD) : V m c main_arg2 = m ((c : Thread nD τ).loc main_arg2) :=
  V_of_ne m c _ (by decide) (by decide) (by decide) (by decide)
theorem V_arg3 (c : Dev nD) : V m c main_arg3 = m ((c : Thread nD τ).loc main_arg3) :=
  V_of_ne m c _ (by decide) (by decide) (by decide) (by decide)
theorem V_arg4 (c : Dev nD) : V m c main_arg4 = m ((c : Thread nD τ).loc main_arg4) :=
  V_of_ne m c _ (by decide) (by decide) (by decide) (by decide)

/-! ## The step tables -/

/-- The query tile, the key tile, the value tile and the flag word of every step. -/
abbrev T0 : Vec Bits S72 .i32 := fun i => lit0 (S72.rowMajor i)
abbrev T1 : Vec Bits S72 .i32 := fun i => lit1 (S72.rowMajor i)
abbrev T2 : Vec Bits S72 .i32 := fun i => lit2 (S72.rowMajor i)
abbrev T3 : Vec Bits S72 .i32 := fun i => lit3 (S72.rowMajor i)

/-- The four tables. -/
def tabs : pre0.Contents (Elt Bits) :=
  fun | ⟨0, _⟩ => T0 | ⟨1, _⟩ => T1 | ⟨2, _⟩ => T2 | ⟨3, _⟩ => T3 | ⟨_ + 4, h⟩ => absurd h (by simp)

/-- The host lines leave these tables. -/
theorem V_pre (c : Dev nD) (j : Fin 4) : V m c (pre0.ref j) = tabs j := by
  fin_cases j
  · show V m c main_c = T0
    entry_read
    rfl
  · show V m c main_c_0 = T1
    entry_read
    rfl
  · show V m c main_c_1 = T2
    entry_read
    rfl
  · show V m c main_c_2 = T3
    entry_read
    rfl

theorem inb0 : ∀ i : grid0.Coords, ∀ a, (cc0_transform_0 k0_off1_inb numel1_S1 tabs i a + 1) * S512x128.size a ≤ S16384x256.size a := by
  decide +kernel
theorem inb1 : ∀ i : grid0.Coords, ∀ a, (cc0_transform_1 k0_off1_inb numel1_S1 tabs i a + 1) * S512x128.size a ≤ S16384x256.size a := by
  decide +kernel
theorem inb2 : ∀ i : grid0.Coords, ∀ a, (cc0_transform_2 k0_off1_inb numel1_S1 tabs i a + 1) * S512x128.size a ≤ S16384x256.size a := by
  decide +kernel
theorem inb3 : ∀ i : grid0.Coords, ∀ a, (cc0_transform_3 k0_off1_inb numel1_S1 tabs i a + 1) * S512x128.size a ≤ S16384x256.size a := by
  decide +kernel
theorem inb4 : ∀ i : grid0.Coords, ∀ a, (cc0_transform_4 k0_off1_inb numel1_S1 tabs i a + 1) * S512x128.size a ≤ S16384x256.size a := by
  decide +kernel
theorem inb5 : ∀ i : grid0.Coords, ∀ a, (cc0_transform_5 k0_off1_inb numel1_S1 tabs i a + 1) * S512x128.size a ≤ S16384x256.size a := by
  decide +kernel

/-- A block of 512 rows and 128 columns is made of whole words. -/
theorem words (f : Fin 2 → ℕ) (h : ∀ a, (f a + 1) * S512x128.size a ≤ S16384x256.size a) :
    EltTy.bits .bf16 = 32 ∨ (Rect.block (s := S16384x256) S512x128.size f h).WholeWords (EltTy.packing .bf16) :=
  .inr (Affine.block_words_dvd (s := S16384x256) (p := EltTy.packing .bf16) (by decide) (by decide))

/-- Every block of every window lies inside its array. -/
theorem ok : ok0 (F := Bits) tabs :=
  ⟨fun i => ⟨inb0 i, words _ _⟩, fun i => ⟨inb1 i, words _ _⟩, fun i => ⟨inb2 i, words _ _⟩,
    fun i => ⟨inb3 i, words _ _⟩, fun i => ⟨inb4 i, words _ _⟩, fun i => ⟨inb5 i, words _ _⟩⟩

/-- The pipeline at these tables. -/
abbrev adm : (pcfg0 (F := Bits)).Adm := ⟨tabs, ok⟩
abbrev cfgA : Pipeline.Cfg sig Λ₀ := cfg0 adm

/-- Each table as the body is handed it. -/
abbrev tb0 : Memref sig .tc .smem S72 .i32 := Memref.whole main_c
abbrev tb1 : Memref sig .tc .smem S72 .i32 := Memref.whole main_c_0
abbrev tb2 : Memref sig .tc .smem S72 .i32 := Memref.whole main_c_1
abbrev tb3 : Memref sig .tc .smem S72 .i32 := Memref.whole main_c_2

/-- The scratch buffers: running maximum, running sum, accumulator. -/
abbrev sm0 : Memref sig .tc .vmem S2x512x1 .f32 := Memref.whole cc0_scratch0
abbrev sm1 : Memref sig .tc .vmem S2x512x1 .f32 := Memref.whole cc0_scratch1
abbrev sm2 : Memref sig .tc .vmem S2x512x128 .f32 := Memref.whole cc0_scratch2

/-- The halves of the four tables that the body reads. -/
theorem PhiT_eq (c : Dev nD) : (Pipeline.ΦT pre0 tabs c : sProp 𝕄)
    = iprop((tb0.view.loc (c : Thread nD τ) ↦{fullShare.right} T0) ∗ (tb1.view.loc (c : Thread nD τ) ↦{fullShare.right} T1)
      ∗ (tb2.view.loc (c : Thread nD τ) ↦{fullShare.right} T2) ∗ (tb3.view.loc (c : Thread nD τ) ↦{fullShare.right} T3)) := by
  unfold Pipeline.ΦT Pipeline.prefHeld
  rw [show (Finset.univ : Finset (Fin 4)) = insert (0 : Fin 4) (insert 1 (insert 2 {(3 : Fin 4)})) from by decide,
    bigSep_insert (by decide), bigSep_insert (by decide), bigSep_insert (by decide), bigSep_singleton]
  rfl

/-! ## The grid points -/

/-- The flag word of a grid point, as the body reads it. -/
def flag (i : grid0.Coords) : BitVec 32 :=
  View.readAt (Elt Bits) tb3.view (Rect.unit (s := S72) (k0_off1 i) S1.size (k0_off1_inb i)).toLoadRect T3
    (Shape.Idx.first (numel1_S1.symm ▸ Nat.one_pos))

/-- What is needed of a grid point: its flag word is one of six; the output's window is skipped, and not written
    back, unless the word is 13; the word is 10 at the first point. -/
abbrev PointFacts (t : Fin cfgA.N) : Prop :=
  ((flag (grid0.coords t) = 13#32 ∧ cfgA.idle (5 : Fin 6) (cfgA.grid.coords t) = false)
    ∨ ((flag (grid0.coords t) = 10#32 ∨ flag (grid0.coords t) = 2#32 ∨ flag (grid0.coords t) = 8#32
        ∨ flag (grid0.coords t) = 1#32 ∨ flag (grid0.coords t) = 0#32)
      ∧ cfgA.idle (5 : Fin 6) (cfgA.grid.coords t) = true ∧ (cfgA.win (5 : Fin 6)).flush t = false))
  ∧ (t.val = 0 → flag (grid0.coords t) = 10#32)

theorem facts_1 : ∀ t : Fin cfgA.N, 0 ≤ t.val → t.val < 144 → PointFacts t := by decide +kernel
theorem facts_2 : ∀ t : Fin cfgA.N, 144 ≤ t.val → t.val < 288 → PointFacts t := by decide +kernel
theorem facts_3 : ∀ t : Fin cfgA.N, 288 ≤ t.val → t.val < 432 → PointFacts t := by decide +kernel
theorem facts_4 : ∀ t : Fin cfgA.N, 432 ≤ t.val → t.val < 576 → PointFacts t := by decide +kernel

theorem point_facts (t : Fin cfgA.N) : PointFacts t := by
  have h4 : t.val < 576 := Nat.lt_of_lt_of_eq t.isLt (show cfgA.N = 576 from N_0)
  rcases Nat.lt_or_ge t.val 144 with h1 | h1
  · exact facts_1 t (Nat.zero_le _) h1
  rcases Nat.lt_or_ge t.val 288 with h2 | h2
  · exact facts_2 t h1 h2
  rcases Nat.lt_or_ge t.val 432 with h3 | h3
  · exact facts_3 t h2 h3
  · exact facts_4 t h3 h4

end Cert.Attention.Attn

end
-- ==== Proof.Attention.Run.lean ====
/- The attention kernel's body at one grid point, on any staging buffers and any table words, run once with all its
   branches: what the three scratch buffers and the output's buffer hold at its end, as case distinctions on the
   branches' conditions. -/
module

public import proofs.«01_k».proof.Proof.Attention.Setup

@[expose] public section

set_option maxRecDepth 16384

noncomputable section

namespace Cert.Attention.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attention Cert.Attention.Gen

local notation "𝕄" => MT nD τ sig Unit (Elt Bits) ℕ (UR sig nD τ) ℕ

/-- A 512 × 128 block of an argument, and one row of step words. -/
abbrev Blk : Type := S512x128.Idx → Elt Bits .bf16
abbrev Tab : Type := S72.Idx → Elt Bits .i32
abbrev MemB : Type := Memref sig .tc .vmem S512x128 .bf16
/-- Contents of the scratch buffers. -/
abbrev Buf0 (c : Dev nD) : Type := Buf (Elt Bits) ((c : Thread nD τ).loc cc0_scratch0)
abbrev Buf1 (c : Dev nD) : Type := Buf (Elt Bits) ((c : Thread nD τ).loc cc0_scratch1)
abbrev Buf2 (c : Dev nD) : Type := Buf (Elt Bits) ((c : Thread nD τ).loc cc0_scratch2)

/-- The word of table `T3` the body reads its branches off. -/
abbrev flagOf (i : grid0.Coords) (T3 : Tab) : BitVec 32 :=
  View.readAt (Elt Bits) tb3.view (Rect.unit (s := S72) (k0_off1 i) S1.size (k0_off1_inb i)).toLoadRect T3
    (Shape.Idx.first (numel1_S1.symm ▸ Nat.one_pos))

variable (c : Dev nD) (i : grid0.Coords) (a7 : MemB) (h7 : a7.IsWhole) (a8 : MemB) (h8 : a8.IsWhole) (a9 : MemB)
  (h9 : a9.IsWhole) (a10 : MemB) (h10 : a10.IsWhole) (a11 : MemB) (h11 : a11.IsWhole) (a12 : MemB) (h12 : a12.IsWhole)
  (T0 T1 T2 T3 : Tab) (x0 x1 x2 x3 x4 : Blk)

/-- The five input blocks and the four tables. -/
def ins : sProp 𝕄 :=
  iprop((a7.view.loc (c : Thread nD τ) ↦[a7.view.set]{fullShare} a7.view.rep x0)
    ∗ (a8.view.loc (c : Thread nD τ) ↦[a8.view.set]{fullShare} a8.view.rep x1)
    ∗ (a9.view.loc (c : Thread nD τ) ↦[a9.view.set]{fullShare} a9.view.rep x2)
    ∗ (a10.view.loc (c : Thread nD τ) ↦[a10.view.set]{fullShare} a10.view.rep x3)
    ∗ (a11.view.loc (c : Thread nD τ) ↦[a11.view.set]{fullShare} a11.view.rep x4)
    ∗ (tb0.view.loc (c : Thread nD τ) ↦{fullShare.right} T0)
    ∗ (tb1.view.loc (c : Thread nD τ) ↦{fullShare.right} T1)
    ∗ (tb2.view.loc (c : Thread nD τ) ↦{fullShare.right} T2)
    ∗ (tb3.view.loc (c : Thread nD τ) ↦{fullShare.right} T3))

/-- The three scratch buffers. -/
def scr (s0 : Buf0 c) (s1 : Buf1 c) (s2 : Buf2 c) : sProp 𝕄 :=
  iprop((sm0.view.loc (c : Thread nD τ) ↦{fullShare} s0) ∗ (sm1.view.loc (c : Thread nD τ) ↦{fullShare} s1)
    ∗ (sm2.view.loc (c : Thread nD τ) ↦{fullShare} s2))

/-- The body on these buffers. -/
abbrev bodyOn := cc0_attn (F := Bits) i tb0 (Memref.isWhole_whole _) tb1 (Memref.isWhole_whole _) tb2
  (Memref.isWhole_whole _) tb3 (Memref.isWhole_whole _) a7 h7 a8 h8 a9 h9 a10 h10 a11 h11 a12 h12
  sm0 (Memref.isWhole_whole _) sm1 (Memref.isWhole_whole _) sm2 (Memref.isWhole_whole _)

variable (s0 : Buf0 c) (s1 : Buf1 c) (s2 : Buf2 c) (y : Blk)

set_option backward.proofsInPublic true in
set_option maxHeartbeats 8000000 in
/-- The body's run: the contents it ends with, and that it ends with them. -/
def run : Σ' (o0 : Buf0 c) (o1 : Buf1 c) (o2 : Buf2 c), { o5 : Buf (Elt Bits) (a12.view.loc (c : Thread nD τ)) //
    ∀ (K : PUnit → sProp 𝕄),
      iprop(ins c a7 a8 a9 a10 a11 T0 T1 T2 T3 x0 x1 x2 x3 x4 ∗ owns (c : Thread nD τ) a12 fullShare y ∗ scr c s0 s1 s2
          ∗ (iprop(ins c a7 a8 a9 a10 a11 T0 T1 T2 T3 x0 x1 x2 x3 x4
              ∗ (a12.view.loc (c : Thread nD τ) ↦[a12.view.set]{fullShare} o5) ∗ scr c o0 o1 o2) -∗ K ⟨⟩))
        ⊢ wp frame (wpE (defs₀ (F := Bits)) Variants.none c none) Set.univ
            (bodyOn i a7 h7 a8 h8 a9 h9 a10 h10 a11 h11 a12 h12) K } :=
  ⟨_, _, _, _, fun K => by
    unfold ins scr owns bodyOn
    rw [cc0_attn_eq_skeleton]; unfold cc0_attn_skel
    iintro ⟨⟨H0, H1, H2, H3, H4, HT0, HT1, HT2, HT3⟩, ⟨%f5, %hf5, HO5⟩, ⟨HS0, HS1, HS2⟩, Hk⟩
    obtain rfl := h12.eq_unread hf5
    have hS0 : sm0.IsWhole := Memref.isWhole_whole _
    have hS1 : sm1.IsWhole := Memref.isWhole_whole _
    have hS2 : sm2.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    sl_exec!
    sl_step
    iapply Hk
    isplitl [H0 H1 H2 H3 H4 HT0 HT1 HT2 HT3]
    · iframe
    isplitl [HO5]
    · iexact HO5
    iframe⟩

end Cert.Attention.Attn

end
-- ==== Proof.AttentionIdeal.Setup.lean ====
/- The attention call up to its launch: the four step tables the host lines write, the pipeline at these tables, and
   the facts about its 576 grid points that the certificate uses. A point's flag word says which of the six kinds of
   step it is; the output block is stored, and written back, exactly at the points with flag word 13. -/
module

public import proofs.«01_k».proof.Proof.Gen.AttentionIdeal.Launch
public import proofs.«01_k».proof.Proof.Gen.AttentionIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Decide
public import Idealize.ShloMosaic.Lib.Affine
public import Idealize.ShloMosaic.PureOps.Ideal
public import Idealize.ShloMosaic.Lib.Claim

@[expose] public section

set_option maxRecDepth 16384

noncomputable section

namespace Cert.AttentionIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttentionIdeal Cert.AttentionIdeal.Gen

local notation "𝕄" => MT nD τ sig Unit (Elt Ideal) ℕ (UR sig nD τ) ℕ

variable (m : (ℓ : Loc nD τ sig) → Buf (Elt Ideal) ℓ)

/-! ## The buffers when the pipeline starts -/

/-- Core `c`'s buffers after the host lines. -/
abbrev V (c : Dev nD) (b : Ref sig .tc) : Buf (Elt Ideal) ((c : Thread nD τ).loc b) :=
  StableHlo.after hostOps0 (fun b => m (c, b)) b

theorem hostOps0_fresh : (hostOps0 : List (HloOp τ sig (Elt Ideal))).Forall fun op => op.fresh = ∅ := by
  simp only [List.Forall]; repeat' constructor

set_option maxHeartbeats 800000 in
/-- The main program is the host lines, then the pipeline. -/
theorem hmain : Pipeline.HMainP (Ix := Unit) (Name := ℕ) (U := UR sig nD τ) (Lvl := ℕ) pcfgs 0 defs₀ Variants.none m
    (main (F := Ideal)) (V m) :=
  Pipeline.hmainP_prefix pcfgs 0 defs₀ Variants.none m main hostOps0 hostOps0_sub hostOps0_fresh main_chain

/-- A buffer that is none of the four tables is as launched. -/
theorem V_of_ne (c : Dev nD) (b : Ref sig .tc) (h0 : b ≠ main_c) (h1 : b ≠ main_c_0) (h2 : b ≠ main_c_1)
    (h3 : b ≠ main_c_2) : V m c b = m ((c : Thread nD τ).loc b) :=
  StableHlo.after_of_forall_not_mem (b := Proc.devRef .tc b) _ _ (List.forall_iff_forall_mem.mp (by
    simp only [hostOps0, List.Forall, StableHlo.nullary_writes, Finset.mem_singleton]
    exact ⟨StableHlo.devRef_ne_of_ne h0, StableHlo.devRef_ne_of_ne h1, StableHlo.devRef_ne_of_ne h2,
      StableHlo.devRef_ne_of_ne h3⟩))

theorem V_arg0 (c : Dev nD) : V m c main_arg0 = m ((c : Thread nD τ).loc main_arg0) :=
  V_of_ne m c _ (by decide) (by decide) (by decide) (by decide)
theorem V_arg1 (c : Dev nD) : V m c main_arg1 = m ((c : Thread nD τ).loc main_arg1) :=
  V_of_ne m c _ (by decide) (by decide) (by decide) (by decide)
theorem V_arg2 (c : Dev nD) : V m c main_arg2 = m ((c : Thread nD τ).loc main_arg2) :=
  V_of_ne m c _ (by decide) (by decide) (by decide) (by decide)
theorem V_arg3 (c : Dev nD) : V m c main_arg3 = m ((c : Thread nD τ).loc main_arg3) :=
  V_of_ne m c _ (by decide) (by decide) (by decide) (by decide)
theorem V_arg4 (c : Dev nD) : V m c main_arg4 = m ((c : Thread nD τ).loc main_arg4) :=
  V_of_ne m c _ (by decide) (by decide) (by decide) (by decide)

/-! ## The step tables -/

/-- The query tile, the key tile, the value tile and the flag word of every step. -/
abbrev T0 : Vec Ideal S72 .i32 := fun i => lit0 (S72.rowMajor i)
abbrev T1 : Vec Ideal S72 .i32 := fun i => lit1 (S72.rowMajor i)
abbrev T2 : Vec Ideal S72 .i32 := fun i => lit2 (S72.rowMajor i)
abbrev T3 : Vec Ideal S72 .i32 := fun i => lit3 (S72.rowMajor i)

/-- The four tables. -/
def tabs : pre0.Contents (Elt Ideal) :=
  fun | ⟨0, _⟩ => T0 | ⟨1, _⟩ => T1 | ⟨2, _⟩ => T2 | ⟨3, _⟩ => T3 | ⟨_ + 4, h⟩ => absurd h (by simp)

/-- The host lines leave these tables. -/
theorem V_pre (c : Dev nD) (j : Fin 4) : V m c (pre0.ref j) = tabs j := by
  fin_cases j
  · show V m c main_c = T0
    entry_read
    rfl
  · show V m c main_c_0 = T1
    entry_read
    rfl
  · show V m c main_c_1 = T2
    entry_read
    rfl
  · show V m c main_c_2 = T3
    entry_read
    rfl

theorem inb0 : ∀ i : grid0.Coords, ∀ a, (cc0_transform_0 k0_off1_inb numel1_S1 tabs i a + 1) * S512x128.size a ≤ S16384x256.size a := by
  decide +kernel
theorem inb1 : ∀ i : grid0.Coords, ∀ a, (cc0_transform_1 k0_off1_inb numel1_S1 tabs i a + 1) * S512x128.size a ≤ S16384x256.size a := by
  decide +kernel
theorem inb2 : ∀ i : grid0.Coords, ∀ a, (cc0_transform_2 k0_off1_inb numel1_S1 tabs i a + 1) * S512x128.size a ≤ S16384x256.size a := by
  decide +kernel
theorem inb3 : ∀ i : grid0.Coords, ∀ a, (cc0_transform_3 k0_off1_inb numel1_S1 tabs i a + 1) * S512x128.size a ≤ S16384x256.size a := by
  decide +kernel
theorem inb4 : ∀ i : grid0.Coords, ∀ a, (cc0_transform_4 k0_off1_inb numel1_S1 tabs i a + 1) * S512x128.size a ≤ S16384x256.size a := by
  decide +kernel
theorem inb5 : ∀ i : grid0.Coords, ∀ a, (cc0_transform_5 k0_off1_inb numel1_S1 tabs i a + 1) * S512x128.size a ≤ S16384x256.size a := by
  decide +kernel

/-- A block of 512 rows and 128 columns is made of whole words. -/
theorem words (f : Fin 2 → ℕ) (h : ∀ a, (f a + 1) * S512x128.size a ≤ S16384x256.size a) :
    EltTy.bits .bf16 = 32 ∨ (Rect.block (s := S16384x256) S512x128.size f h).WholeWords (EltTy.packing .bf16) :=
  .inr (Affine.block_words_dvd (s := S16384x256) (p := EltTy.packing .bf16) (by decide) (by decide))

/-- Every block of every window lies inside its array. -/
theorem ok : ok0 (F := Ideal) tabs :=
  ⟨fun i => ⟨inb0 i, words _ _⟩, fun i => ⟨inb1 i, words _ _⟩, fun i => ⟨inb2 i, words _ _⟩,
    fun i => ⟨inb3 i, words _ _⟩, fun i => ⟨inb4 i, words _ _⟩, fun i => ⟨inb5 i, words _ _⟩⟩

/-- The pipeline at these tables. -/
abbrev adm : (pcfg0 (F := Ideal)).Adm := ⟨tabs, ok⟩
abbrev cfgA : Pipeline.Cfg sig Λ₀ := cfg0 adm

/-- Each table as the body is handed it. -/
abbrev tb0 : Memref sig .tc .smem S72 .i32 := Memref.whole main_c
abbrev tb1 : Memref sig .tc .smem S72 .i32 := Memref.whole main_c_0
abbrev tb2 : Memref sig .tc .smem S72 .i32 := Memref.whole main_c_1
abbrev tb3 : Memref sig .tc .smem S72 .i32 := Memref.whole main_c_2

/-- The scratch buffers: running maximum, running sum, accumulator. -/
abbrev sm0 : Memref sig .tc .vmem S2x512x1 .f32 := Memref.whole cc0_scratch0
abbrev sm1 : Memref sig .tc .vmem S2x512x1 .f32 := Memref.whole cc0_scratch1
abbrev sm2 : Memref sig .tc .vmem S2x512x128 .f32 := Memref.whole cc0_scratch2

/-- The halves of the four tables that the body reads. -/
theorem PhiT_eq (c : Dev nD) : (Pipeline.ΦT pre0 tabs c : sProp 𝕄)
    = iprop((tb0.view.loc (c : Thread nD τ) ↦{fullShare.right} T0) ∗ (tb1.view.loc (c : Thread nD τ) ↦{fullShare.right} T1)
      ∗ (tb2.view.loc (c : Thread nD τ) ↦{fullShare.right} T2) ∗ (tb3.view.loc (c : Thread nD τ) ↦{fullShare.right} T3)) := by
  unfold Pipeline.ΦT Pipeline.prefHeld
  rw [show (Finset.univ : Finset (Fin 4)) = insert (0 : Fin 4) (insert 1 (insert 2 {(3 : Fin 4)})) from by decide,
    bigSep_insert (by decide), bigSep_insert (by decide), bigSep_insert (by decide), bigSep_singleton]
  rfl

/-! ## The grid points -/

/-- The flag word of a grid point, as the body reads it. -/
def flag (i : grid0.Coords) : BitVec 32 :=
  View.readAt (Elt Ideal) tb3.view (Rect.unit (s := S72) (k0_off1 i) S1.size (k0_off1_inb i)).toLoadRect T3
    (Shape.Idx.first (numel1_S1.symm ▸ Nat.one_pos))

/-- What is needed of a grid point: its flag word is one of six; the output's window is skipped, and not written
    back, unless the word is 13; the word is 10 at the first point. -/
abbrev PointFacts (t : Fin cfgA.N) : Prop :=
  ((flag (grid0.coords t) = 13#32 ∧ cfgA.idle (5 : Fin 6) (cfgA.grid.coords t) = false)
    ∨ ((flag (grid0.coords t) = 10#32 ∨ flag (grid0.coords t) = 2#32 ∨ flag (grid0.coords t) = 8#32
        ∨ flag (grid0.coords t) = 1#32 ∨ flag (grid0.coords t) = 0#32)
      ∧ cfgA.idle (5 : Fin 6) (cfgA.grid.coords t) = true ∧ (cfgA.win (5 : Fin 6)).flush t = false))
  ∧ (t.val = 0 → flag (grid0.coords t) = 10#32)

theorem facts_1 : ∀ t : Fin cfgA.N, 0 ≤ t.val → t.val < 144 → PointFacts t := by decide +kernel
theorem facts_2 : ∀ t : Fin cfgA.N, 144 ≤ t.val → t.val < 288 → PointFacts t := by decide +kernel
theorem facts_3 : ∀ t : Fin cfgA.N, 288 ≤ t.val → t.val < 432 → PointFacts t := by decide +kernel
theorem facts_4 : ∀ t : Fin cfgA.N, 432 ≤ t.val → t.val < 576 → PointFacts t := by decide +kernel

theorem point_facts (t : Fin cfgA.N) : PointFacts t := by
  have h4 : t.val < 576 := Nat.lt_of_lt_of_eq t.isLt (show cfgA.N = 576 from N_0)
  rcases Nat.lt_or_ge t.val 144 with h1 | h1
  · exact facts_1 t (Nat.zero_le _) h1
  rcases Nat.lt_or_ge t.val 288 with h2 | h2
  · exact facts_2 t h1 h2
  rcases Nat.lt_or_ge t.val 432 with h3 | h3
  · exact facts_3 t h2 h3
  · exact facts_4 t h3 h4

end Cert.AttentionIdeal.Attn

end
-- ==== Proof.AttentionIdeal.Run.lean ====
/- The attention kernel's body at one grid point, on any staging buffers and any table words, run once with all its
   branches: what the three scratch buffers and the output's buffer hold at its end, as case distinctions on the
   branches' conditions. -/
module

public import proofs.«01_k».proof.Proof.AttentionIdeal.Setup

@[expose] public section

set_option maxRecDepth 16384

noncomputable section

namespace Cert.AttentionIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttentionIdeal Cert.AttentionIdeal.Gen

local notation "𝕄" => MT nD τ sig Unit (Elt Ideal) ℕ (UR sig nD τ) ℕ

/-- A 512 × 128 block of an argument, and one row of step words. -/
abbrev Blk : Type := S512x128.Idx → Elt Ideal .bf16
abbrev Tab : Type := S72.Idx → Elt Ideal .i32
abbrev MemB : Type := Memref sig .tc .vmem S512x128 .bf16
/-- Contents of the scratch buffers. -/
abbrev Buf0 (c : Dev nD) : Type := Buf (Elt Ideal) ((c : Thread nD τ).loc cc0_scratch0)
abbrev Buf1 (c : Dev nD) : Type := Buf (Elt Ideal) ((c : Thread nD τ).loc cc0_scratch1)
abbrev Buf2 (c : Dev nD) : Type := Buf (Elt Ideal) ((c : Thread nD τ).loc cc0_scratch2)

/-- The word of table `T3` the body reads its branches off. -/
abbrev flagOf (i : grid0.Coords) (T3 : Tab) : BitVec 32 :=
  View.readAt (Elt Ideal) tb3.view (Rect.unit (s := S72) (k0_off1 i) S1.size (k0_off1_inb i)).toLoadRect T3
    (Shape.Idx.first (numel1_S1.symm ▸ Nat.one_pos))

variable (c : Dev nD) (i : grid0.Coords) (a7 : MemB) (h7 : a7.IsWhole) (a8 : MemB) (h8 : a8.IsWhole) (a9 : MemB)
  (h9 : a9.IsWhole) (a10 : MemB) (h10 : a10.IsWhole) (a11 : MemB) (h11 : a11.IsWhole) (a12 : MemB) (h12 : a12.IsWhole)
  (T0 T1 T2 T3 : Tab) (x0 x1 x2 x3 x4 : Blk)

/-- The five input blocks and the four tables. -/
def ins : sProp 𝕄 :=
  iprop((a7.view.loc (c : Thread nD τ) ↦[a7.view.set]{fullShare} a7.view.rep x0)
    ∗ (a8.view.loc (c : Thread nD τ) ↦[a8.view.set]{fullShare} a8.view.rep x1)
    ∗ (a9.view.loc (c : Thread nD τ) ↦[a9.view.set]{fullShare} a9.view.rep x2)
    ∗ (a10.view.loc (c : Thread nD τ) ↦[a10.view.set]{fullShare} a10.view.rep x3)
    ∗ (a11.view.loc (c : Thread nD τ) ↦[a11.view.set]{fullShare} a11.view.rep x4)
    ∗ (tb0.view.loc (c : Thread nD τ) ↦{fullShare.right} T0)
    ∗ (tb1.view.loc (c : Thread nD τ) ↦{fullShare.right} T1)
    ∗ (tb2.view.loc (c : Thread nD τ) ↦{fullShare.right} T2)
    ∗ (tb3.view.loc (c : Thread nD τ) ↦{fullShare.right} T3))

/-- The three scratch buffers. -/
def scr (s0 : Buf0 c) (s1 : Buf1 c) (s2 : Buf2 c) : sProp 𝕄 :=
  iprop((sm0.view.loc (c : Thread nD τ) ↦{fullShare} s0) ∗ (sm1.view.loc (c : Thread nD τ) ↦{fullShare} s1)
    ∗ (sm2.view.loc (c : Thread nD τ) ↦{fullShare} s2))

/-- The body on these buffers. -/
abbrev bodyOn := cc0_attn (F := Ideal) i tb0 (Memref.isWhole_whole _) tb1 (Memref.isWhole_whole _) tb2
  (Memref.isWhole_whole _) tb3 (Memref.isWhole_whole _) a7 h7 a8 h8 a9 h9 a10 h10 a11 h11 a12 h12
  sm0 (Memref.isWhole_whole _) sm1 (Memref.isWhole_whole _) sm2 (Memref.isWhole_whole _)

variable (s0 : Buf0 c) (s1 : Buf1 c) (s2 : Buf2 c) (y : Blk)

set_option backward.proofsInPublic true in
set_option maxHeartbeats 8000000 in
/-- The body's run: the contents it ends with, and that it ends with them. -/
def run : Σ' (o0 : Buf0 c) (o1 : Buf1 c) (o2 : Buf2 c), { o5 : Buf (Elt Ideal) (a12.view.loc (c : Thread nD τ)) //
    ∀ (K : PUnit → sProp 𝕄),
      iprop(ins c a7 a8 a9 a10 a11 T0 T1 T2 T3 x0 x1 x2 x3 x4 ∗ owns (c : Thread nD τ) a12 fullShare y ∗ scr c s0 s1 s2
          ∗ (iprop(ins c a7 a8 a9 a10 a11 T0 T1 T2 T3 x0 x1 x2 x3 x4
              ∗ (a12.view.loc (c : Thread nD τ) ↦[a12.view.set]{fullShare} o5) ∗ scr c o0 o1 o2) -∗ K ⟨⟩))
        ⊢ wp frame (wpE (defs₀ (F := Ideal)) Variants.none c none) Set.univ
            (bodyOn i a7 h7 a8 h8 a9 h9 a10 h10 a11 h11 a12 h12) K } :=
  ⟨_, _, _, _, fun K => by
    unfold ins scr owns bodyOn
    rw [cc0_attn_eq_skeleton]; unfold cc0_attn_skel
    iintro ⟨⟨H0, H1, H2, H3, H4, HT0, HT1, HT2, HT3⟩, ⟨%f5, %hf5, HO5⟩, ⟨HS0, HS1, HS2⟩, Hk⟩
    obtain rfl := h12.eq_unread hf5
    have hS0 : sm0.IsWhole := Memref.isWhole_whole _
    have hS1 : sm1.IsWhole := Memref.isWhole_whole _
    have hS2 : sm2.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    sl_exec!
    sl_step
    iapply Hk
    isplitl [H0 H1 H2 H3 H4 HT0 HT1 HT2 HT3]
    · iframe
    isplitl [HO5]
    · iexact HO5
    iframe⟩

end Cert.AttentionIdeal.Attn

end
-- ==== Proof.AttentionIdeal.Body.lean ====
/- What the attention body's operations compute, element by element, in exact arithmetic. -/
module

public import proofs.«01_k».proof.Proof.Gen.AttentionIdeal.Skeleton
public import Idealize.ShloMosaic.PureOps.Ideal.Laws
public import Idealize.ShloMosaic.Lib.Pointwise
public import Idealize.ShloMosaic.Lib.WordCmp

@[expose] public section

set_option maxRecDepth 16384

noncomputable section

namespace Cert.AttentionIdeal.Attn

open Idealize.ShloMosaic Idealize.ShloMosaic.TcCoe Idealize.SL.Sem
open Idealize.ShloMosaic.WordCmp
open Cert.AttentionIdeal Cert.AttentionIdeal.Gen

/-- The lane numbers. -/
abbrev lanes : IVec S1x128 32 := iota .tc S1x128 32 [1] iota_S1x128_d1_w32

/-- A tile of scores: query row, key row. -/
abbrev Mat := Fin 512 → Fin 512 → EReal

abbrev Tile := FVec Ideal S512x128 .bf16

/-- The inner product of two rows over the `w` lanes of head `j`. -/
def part (w j : ℕ) (x y : Fin 128 → EReal) : EReal :=
  ∑ l : Fin 128, if w * j ≤ l.val ∧ l.val < w * (j + 1) then x l * y l else 0

/-- Head `j`'s scores of a tile: 64 lanes of query and key, 6 lanes of the two bias operands. -/
def score (j : ℕ) (x0 x1 x2 x3 : Tile) : Mat := fun a b =>
  part 64 j (fun l => x0 (ix2 a l)) (fun l => x2 (ix2 b l)) + part 6 j (fun l => x1 (ix2 a l)) (fun l => x3 (ix2 b l))

/-- The causal mask on the tile of query tile `q` and key tile `k`. -/
def masked (q k : ℕ) (s : Mat) : Mat := fun a b => if 512 * k + b.val ≤ 512 * q + a.val then s a b else ⊥

def newMax (s : Mat) (m : Fin 512 → EReal) (a : Fin 512) : EReal := max (m a) (Finset.univ.fold max ⊥ (s a))

def newSum (s : Mat) (m l : Fin 512 → EReal) (a : Fin 512) : EReal :=
  Ideal.exp (m a - newMax s m a) * l a + ∑ b, Ideal.exp (s a b - newMax s m a)

def newAcc (s : Mat) (m l : Fin 512 → EReal) (v : Tile) (acc : Fin 512 → Fin 128 → EReal) (a : Fin 512) (d : Fin 128) : EReal :=
  acc a d + ∑ b, Ideal.exp (s a b - m a) * Ideal.div 1 (l a) * v (ix2 b d)

theorem select_ofBool (p : Prop) [Decidable p] (x y : EReal) :
    Scalar.select (BitVec.ofBool (decide p)) x y = if p then x else y := by
  by_cases h : p <;> simp [Scalar.select, h]

theorem lane_mask (lo hi : ℕ) (hl : lo ≤ 128) (hh : hi ≤ 128) (l : Fin 128) (x : EReal) :
    Scalar.select (IntOp.andi (IntOp.cmpi CmpIPredicate.sge (BitVec.ofNat 32 l.val) (BitVec.ofNat 32 lo))
      (IntOp.cmpi CmpIPredicate.slt (BitVec.ofNat 32 l.val) (BitVec.ofNat 32 hi))) x 0
      = if lo ≤ l.val ∧ l.val < hi then x else 0 := by
  have hlt := l.isLt
  rw [cmpi_sge_ofNat (by omega) (by omega), cmpi_slt_ofNat (by omega) (by omega)]
  by_cases h₁ : lo ≤ l.val <;> by_cases h₂ : l.val < hi <;> simp [Scalar.select, IntOp.andi, h₁, h₂]

theorem causal (q k : ℕ) (hq : q < 8) (hk : k < 8) (a b : Fin 512) (x y : EReal) :
    Scalar.select (IntOp.cmpi CmpIPredicate.sle
        (IntOp.addi (Scalar.muli (BitVec.ofNat 32 k) 512#32) (BitVec.ofNat 32 b.val))
        (IntOp.addi (Scalar.addi (0#32) (Scalar.muli (BitVec.ofNat 32 q) 512#32)) (BitVec.ofNat 32 a.val))) x y
      = if 512 * k + b.val ≤ 512 * q + a.val then x else y := by
  have ha := a.isLt
  have hb := b.isLt
  have e₁ : IntOp.addi (Scalar.muli (BitVec.ofNat 32 k) 512#32) (BitVec.ofNat 32 b.val) = BitVec.ofNat 32 (512 * k + b.val) := by
    apply BitVec.eq_of_toNat_eq
    simp only [IntOp.addi, Scalar.muli, IntOp.muli, BitVec.toNat_add, BitVec.toNat_mul, BitVec.toNat_ofNat]
    omega
  have e₂ : IntOp.addi (Scalar.addi (0#32) (Scalar.muli (BitVec.ofNat 32 q) 512#32)) (BitVec.ofNat 32 a.val) = BitVec.ofNat 32 (512 * q + a.val) := by
    apply BitVec.eq_of_toNat_eq
    simp only [IntOp.addi, Scalar.addi, Scalar.muli, IntOp.muli, BitVec.toNat_add, BitVec.toNat_mul, BitVec.toNat_ofNat]
    omega
  rw [e₁, e₂, cmpi_sle_ofNat (by omega) (by omega), select_ofBool]

theorem bot_bits : Ideal.ofBits FTy.f32 4286578688#32 = ⊥ := by simp [Ideal.ofBits, Ideal.ieee]

theorem one_bits : Ideal.ofBits FTy.f32 1065353216#32 = 1 := by simp [Ideal.ofBits, Ideal.ieee, -EReal.coe_mul]; norm_num

/-! ## The scores -/

theorem part_of_select (w j : ℕ) (h : w * (j + 1) ≤ 128) (x y : Fin 128 → EReal) :
    (∑ l : Fin 128, Scalar.select (IntOp.andi (IntOp.cmpi CmpIPredicate.sge (BitVec.ofNat 32 l.val) (BitVec.ofNat 32 (w * j)))
      (IntOp.cmpi CmpIPredicate.slt (BitVec.ofNat 32 l.val) (BitVec.ofNat 32 (w * (j + 1))))) (x l * y l) 0) = part w j x y :=
  Finset.sum_congr rfl fun l _ => lane_mask _ _ (by rw [Nat.mul_add] at h; omega) h l _

theorem pay4_at (x0 x1 x2 x3 : Tile) (a b : Fin 512) :
    k0_pay4 (F := Ideal) lanes x0 x1 x2 x3 (ix2 a b) = score 0 x0 x1 x2 x3 a b := by
  pointwise [k0_pay4, lanes]
  exact congrArg₂ (· + ·) (part_of_select 64 0 (by omega) _ _) (part_of_select 6 0 (by omega) _ _)

theorem pay11_at (x0 x1 x2 x3 : Tile) (a b : Fin 512) :
    k0_pay11 (F := Ideal) lanes x0 x1 x2 x3 (ix2 a b) = score 1 x0 x1 x2 x3 a b := by
  pointwise [k0_pay11, lanes]
  exact congrArg₂ (· + ·) (part_of_select 64 1 (by omega) _ _) (part_of_select 6 1 (by omega) _ _)

theorem pay26_at (x0 x1 x2 x3 : Tile) (a b : Fin 512) :
    k0_pay26 (F := Ideal) lanes x0 x1 x2 x3 (ix2 a b) = score 1 x0 x1 x2 x3 a b := pay11_at x0 x1 x2 x3 a b

theorem masked_of {q k : ℕ} {a b : Fin 512} {s : Mat} {z : EReal} (h : z = s a b) :
    (if 512 * k + b.val ≤ 512 * q + a.val then z else ⊥) = masked q k s a b := by rw [h]; rfl

section
variable {q k : ℕ} (hq : q < 8) (hk : k < 8)
include hq hk

theorem pay12_at (x0 x1 x2 x3 : Tile) (a b : Fin 512) :
    k0_pay12 (F := Ideal) (BitVec.ofNat 32 q) (BitVec.ofNat 32 k) lanes x0 x1 x2 x3 (ix2 a b) = masked q k (score 0 x0 x1 x2 x3) a b := by
  pointwise [k0_pay12, lanes]
  rw [causal q k hq hk, bot_bits]
  exact masked_of (congrArg₂ (· + ·) (part_of_select 64 0 (by omega) _ _) (part_of_select 6 0 (by omega) _ _))

theorem pay27_at (x0 x1 x2 x3 : Tile) (a b : Fin 512) :
    k0_pay27 (F := Ideal) (BitVec.ofNat 32 q) (BitVec.ofNat 32 k) lanes x0 x1 x2 x3 (ix2 a b) = masked q k (score 0 x0 x1 x2 x3) a b :=
  pay12_at hq hk x0 x1 x2 x3 a b

theorem pay19_at (x0 x1 x2 x3 : Tile) (a b : Fin 512) :
    k0_pay19 (F := Ideal) (BitVec.ofNat 32 q) (BitVec.ofNat 32 k) (k0_pay17 lanes x0) (k0_pay18 lanes) x1 (Scalar.ofBits .bf16 0x0000#16) x2 x3 (ix2 a b)
      = masked q k (score 1 x0 x1 x2 x3) a b := by
  pointwise [k0_pay19, k0_pay17, k0_pay18, lanes]
  rw [causal q k hq hk, bot_bits]
  exact masked_of (congrArg₂ (· + ·) (part_of_select 64 1 (by omega) _ _) (part_of_select 6 1 (by omega) _ _))

end

/-! ## The running maximum and sum -/

/-- A column of scratch, one half of it. -/
abbrev Col := FVec Ideal S1x512x1 .f32

def col (m : Col) : Fin 512 → EReal := fun a => m (ix3 0 a 0)

theorem plain_max0 (x0 x1 x2 x3 : Tile) (m : Col) (a : Fin 512) :
    k0_pay10 (F := Ideal) (k0_pay6 lanes x0 x1 x2 x3 m) (ix3 0 a 0) = newMax (score 0 x0 x1 x2 x3) (col m) a := by
  pointwise [k0_pay10, k0_pay6, k0_pay5]
  simp only [pay4_at, bot_bits]
  rfl

theorem pay6_at (x0 x1 x2 x3 : Tile) (m : Col) (a : Fin 512) (b : Fin 1) :
    k0_pay6 (F := Ideal) lanes x0 x1 x2 x3 m (ix2 a b) = newMax (score 0 x0 x1 x2 x3) (col m) a := by
  pointwise [k0_pay6, k0_pay5]
  simp only [pay4_at, bot_bits]
  rfl

theorem plain_sum0 (x0 x1 x2 x3 : Tile) (m l : Col) (a : Fin 512) :
    k0_pay9 (F := Ideal) (k0_pay7 lanes x0 x1 x2 x3 m l) (k0_pay8 lanes x0 x1 x2 x3 m) (ix3 0 a 0)
      = newSum (score 0 x0 x1 x2 x3) (col m) (col l) a := by
  pointwise [k0_pay9, k0_pay8, k0_pay7, k0_pay5]
  simp only [pay4_at, pay6_at]
  rfl

theorem pay36_at (s : FVec Ideal S512x512 .f32) (S : Mat) (h : ∀ a b, s (ix2 a b) = S a b) (m : Col) (a : Fin 512) (b : Fin 1) :
    k0_pay36 (F := Ideal) s m (ix2 a b) = newMax S (col m) a := by
  pointwise [k0_pay36, k0_pay35]
  simp only [h, bot_bits]
  rfl

theorem plain_max1 (s : FVec Ideal S512x512 .f32) (S : Mat) (h : ∀ a b, s (ix2 a b) = S a b) (m : Col) (a : Fin 512) :
    k0_pay38 (F := Ideal) s m (ix3 0 a 0) = newMax S (col m) a := by
  pointwise [k0_pay38]
  exact pay36_at s S h m a 0

theorem plain_sum1 (s : FVec Ideal S512x512 .f32) (S : Mat) (h : ∀ a b, s (ix2 a b) = S a b) (m l : Col) (a : Fin 512) :
    k0_pay37 (F := Ideal) s m l (ix3 0 a 0) = newSum S (col m) (col l) a := by
  pointwise [k0_pay37, k0_pay35]
  simp only [pay36_at s S h, h]
  rfl

theorem masked_max0 (s : FVec Ideal S512x512 .f32) (S : Mat) (h : ∀ a b, s (ix2 a b) = S a b) (m : Col) (a : Fin 512) :
    k0_pay16 (F := Ideal) s m (ix3 0 a 0) = newMax S (col m) a := plain_max1 s S h m a

theorem masked_sum0 (s : FVec Ideal S512x512 .f32) (S : Mat) (h : ∀ a b, s (ix2 a b) = S a b) (m l : Col) (a : Fin 512) :
    k0_pay15 (F := Ideal) s m l (ix3 0 a 0) = newSum S (col m) (col l) a := plain_sum1 s S h m l a

section
variable {q k : ℕ} (hq : q < 8) (hk : k < 8)
include hq hk

theorem masked_max1 (x0 x1 x2 x3 : Tile) (m : Col) (a : Fin 512) :
    k0_pay39 (F := Ideal) (k0_pay21 (BitVec.ofNat 32 q) (BitVec.ofNat 32 k) (k0_pay17 lanes x0) (k0_pay18 lanes) x1 (Scalar.ofBits .bf16 0x0000#16) x2 x3 m) (ix3 0 a 0)
      = newMax (masked q k (score 1 x0 x1 x2 x3)) (col m) a :=
  plain_max1 _ _ (pay19_at hq hk x0 x1 x2 x3) m a

theorem masked_sum1 (x0 x1 x2 x3 : Tile) (m l : Col) (a : Fin 512) :
    k0_pay22 (F := Ideal) (BitVec.ofNat 32 q) (BitVec.ofNat 32 k) (k0_pay17 lanes x0) (k0_pay18 lanes) x1 (Scalar.ofBits .bf16 0x0000#16) x2 x3 m l (ix3 0 a 0)
      = newSum (masked q k (score 1 x0 x1 x2 x3)) (col m) (col l) a :=
  plain_sum1 _ _ (pay19_at hq hk x0 x1 x2 x3) m l a

end

/-! ## The weighted sum of the values -/

/-- The accumulator's scratch, one half of it. -/
abbrev Acc := FVec Ideal S1x512x128 .f32

def rows (x : Acc) : Fin 512 → Fin 128 → EReal := fun a d => x (ix3 0 a d)

theorem acc_at (v : Tile) (s : FVec Ideal S512x512 .f32) (S : Mat) (h : ∀ a b, s (ix2 a b) = S a b) (m l : Col) (x : Acc) (a : Fin 512) (d : Fin 128) :
    k0_pay28 (F := Ideal) v s m l x (ix3 0 a d) = newAcc S (col m) (col l) v (rows x) a d := by
  pointwise [k0_pay28]
  simp only [h]
  rfl

theorem plain_acc0 (x0 x1 x2 x3 v : Tile) (m l : Col) (x : Acc) (a : Fin 512) (d : Fin 128) :
    k0_pay25 (F := Ideal) v (k0_pay23 lanes x0 x1 x2 x3 m) (k0_pay24 l) x (ix3 0 a d)
      = newAcc (score 0 x0 x1 x2 x3) (col m) (col l) v (rows x) a d :=
  acc_at v (k0_pay4 lanes x0 x1 x2 x3) _ (pay4_at x0 x1 x2 x3) m l x a d

theorem plain_acc1 (x0 x1 x2 x3 v : Tile) (m l : Col) (x : Acc) (a : Fin 512) (d : Fin 128) :
    k0_pay1 (F := Ideal) v (k0_pay26 lanes x0 x1 x2 x3) m l x (ix3 0 a d)
      = newAcc (score 1 x0 x1 x2 x3) (col m) (col l) v (rows x) a d :=
  acc_at v _ _ (pay26_at x0 x1 x2 x3) m l x a d

theorem masked_acc1 {q k : ℕ} (hq : q < 8) (hk : k < 8) (x0 x1 x2 x3 v : Tile) (m l : Col) (x : Acc) (a : Fin 512) (d : Fin 128) :
    k0_pay2 (F := Ideal) (k0_pay31 (BitVec.ofNat 32 q) (BitVec.ofNat 32 k) v (k0_pay29 lanes x0) x1 (Scalar.ofBits .bf16 0x0000#16) (k0_pay30 lanes) x2 x3 m l x) (ix3 0 a d)
      = newAcc (masked q k (score 1 x0 x1 x2 x3)) (col m) (col l) v (rows x) a d := by
  pointwise [k0_pay2, k0_pay31, k0_pay29, k0_pay30, lanes]
  simp only [causal q k hq hk, bot_bits]
  refine congrArg (x (ix3 0 a d) + ·) (Finset.sum_congr rfl fun b _ => ?_)
  refine congrArg (fun z => Ideal.exp (z - m (ix3 0 a 0)) * Ideal.div 1 (l (ix3 0 a 0)) * v (ix2 b d)) (masked_of <| congrArg₂ (· + ·) (part_of_select 64 1 (by omega) _ _) (part_of_select 6 1 (by omega) _ _))

/-- What is stored: head 0's accumulator in lanes 0 to 63, head 1's in the others. -/
theorem out_at (x y : Acc) (a : Fin 512) (d : Fin 128) :
    k0_pay3 (F := Ideal) lanes x y (ix2 a d) = if d.val < 64 then rows x a d else rows y a d := by
  have hd := d.isLt
  pointwise [k0_pay3, lanes]
  rw [cmpi_slt_ofNat (by omega) (by omega), select_ofBool]
  rfl

end Cert.AttentionIdeal.Attn
end
-- ==== Proof.AttentionIdeal.Step.lean ====
/- One point's body read at an index of the scratch buffers: each branch takes the maximum, the sum or the accumulator of
   each head from what it was to `newMax`, `newSum`, `newAcc` of it. -/
module

public import proofs.«01_k».proof.Proof.AttentionIdeal.Run
public import proofs.«01_k».proof.Proof.AttentionIdeal.Body
public import Idealize.ShloMosaic.Lib.VecWindow

@[expose] public section

set_option maxRecDepth 16384

noncomputable section

namespace Cert.AttentionIdeal.Attn

open Idealize.ShloMosaic Idealize.ShloMosaic.TcCoe Idealize.ShloMosaic.Tactic
open Idealize.SL Idealize.SL.Sem
open Cert.AttentionIdeal Cert.AttentionIdeal.Gen

/-- Head `j`'s column of a scratch buffer of columns, and its half of the accumulator. -/
def half (f : S2x512x1.Idx → EReal) (j : Fin 2) : Fin 512 → EReal := fun a => f (ix3 j a 0)
def halfAcc (f : S2x512x128.Idx → EReal) (j : Fin 2) : Fin 512 → Fin 128 → EReal := fun a d => f (ix3 j a d)

section
variable {sg : RefSig} {κ : Kind} {sp : Space}

theorem unit_half {N K : ℕ} (j : Fin 2) (inb) (c : Fin 1) (a : Fin N) (d : Fin K) :
    (Rect.unit (s := (⟨3, ![2, N, K]⟩ : Shape)) ![j.val, 0, 0] ![1, N, K] inb).emb (ix3 c a d) = ix3 j a d := by
  refine Rect.emb_eq_of_coords _ _ _ fun x => ?_
  fin_cases x
  · show j.val = j.val + 1 * c.val
    omega
  · show a.val = 0 + 1 * a.val
    omega
  · show d.val = 0 + 1 * d.val
    omega

theorem unit_coords {N K : ℕ} (j : Fin 2) (inb) (a : Fin N) (d : Fin K) (x : Fin 3) :
    ((ix3 j a d : (⟨3, ![2, N, K]⟩ : Shape).Idx) x).val
      = (Rect.unit (s := (⟨3, ![2, N, K]⟩ : Shape)) ![j.val, 0, 0] ![1, N, K] inb).off x
        + (Rect.unit (s := (⟨3, ![2, N, K]⟩ : Shape)) ![j.val, 0, 0] ![1, N, K] inb).stride x
          * ((ix3 (0 : Fin 1) a d : (⟨3, ![1, N, K]⟩ : Shape).Idx) x).val := by
  fin_cases x
  · show j.val = j.val + 1 * 0
    omega
  · show a.val = 0 + 1 * a.val
    omega
  · show d.val = 0 + 1 * d.val
    omega

/-- Reading a head's column. -/
theorem col_readAt (v : View sg κ sp S2x512x1 .f32) (f : v.ty.Contents (Elt Ideal)) (j : Fin 2) (inb) :
    col (View.readAt (Elt Ideal) v (Rect.unit (s := S2x512x1) ![j.val, 0, 0] ![1, 512, 1] inb).toLoadRect f)
      = half (v.read (Elt Ideal) f) j :=
  funext fun a => congrArg (v.read (Elt Ideal) f) (unit_half j inb 0 a 0)

theorem rows_readAt (v : View sg κ sp S2x512x128 .f32) (f : v.ty.Contents (Elt Ideal)) (j : Fin 2) (inb) :
    rows (View.readAt (Elt Ideal) v (Rect.unit (s := S2x512x128) ![j.val, 0, 0] ![1, 512, 128] inb).toLoadRect f)
      = halfAcc (v.read (Elt Ideal) f) j :=
  funext fun a => funext fun d => congrArg (v.read (Elt Ideal) f) (unit_half j inb 0 a d)

/-- A scratch buffer after its two halves are stored. -/
theorem half_stores (v : View sg κ sp S2x512x1 .f32) (f : v.ty.Contents (Elt Ideal)) (i0 i1) (w0 w1 : Col) (j : Fin 2) :
    half (v.read (Elt Ideal) (v.writes (Elt Ideal) f
      [⟨Rect.unit (s := S2x512x1) ![1, 0, 0] ![1, 512, 1] i1, w1⟩, ⟨Rect.unit (s := S2x512x1) ![0, 0, 0] ![1, 512, 1] i0, w0⟩])) j
      = col (if j = 0 then w0 else w1) := by
  funext a
  fin_cases j
  · refine (View.read_writes_cons_miss_of_axis v f _ _ _ 0 1 1 rfl rfl rfl (.inl Nat.one_pos)).trans ?_
    exact View.read_writes_cons_hit_of_coords v f (Rect.unit (s := S2x512x1) ![0, 0, 0] ![1, 512, 1] i0) w0 _ (ix3 0 a 0) _ (unit_coords (0 : Fin 2) i0 a 0)
  · exact View.read_writes_cons_hit_of_coords v f (Rect.unit (s := S2x512x1) ![1, 0, 0] ![1, 512, 1] i1) w1 _ (ix3 0 a 0) _ (unit_coords (1 : Fin 2) i1 a 0)

theorem halfAcc_stores (v : View sg κ sp S2x512x128 .f32) (f : v.ty.Contents (Elt Ideal)) (i0 i1) (w0 w1 : Acc) (j : Fin 2) :
    halfAcc (v.read (Elt Ideal) (v.writes (Elt Ideal) f
      [⟨Rect.unit (s := S2x512x128) ![1, 0, 0] ![1, 512, 128] i1, w1⟩, ⟨Rect.unit (s := S2x512x128) ![0, 0, 0] ![1, 512, 128] i0, w0⟩])) j
      = rows (if j = 0 then w0 else w1) := by
  funext a d
  fin_cases j
  · refine (View.read_writes_cons_miss_of_axis v f _ _ _ 0 1 1 rfl rfl rfl (.inl Nat.one_pos)).trans ?_
    exact View.read_writes_cons_hit_of_coords v f (Rect.unit (s := S2x512x128) ![0, 0, 0] ![1, 512, 128] i0) w0 _ (ix3 0 a d) _ (unit_coords (0 : Fin 2) i0 a d)
  · exact View.read_writes_cons_hit_of_coords v f (Rect.unit (s := S2x512x128) ![1, 0, 0] ![1, 512, 128] i1) w1 _ (ix3 0 a d) _ (unit_coords (1 : Fin 2) i1 a d)

end

variable (c : Dev nD) (i : grid0.Coords) (a7 : MemB) (h7 : a7.IsWhole) (a8 : MemB) (h8 : a8.IsWhole) (a9 : MemB)
  (h9 : a9.IsWhole) (a10 : MemB) (h10 : a10.IsWhole) (a11 : MemB) (h11 : a11.IsWhole) (a12 : MemB) (h12 : a12.IsWhole)
  (T0 T1 T2 T3 : Tab) (x0 x1 x2 x3 x4 : Blk) (s0 : Buf0 c) (s1 : Buf1 c) (s2 : Buf2 c) (y : Blk)

/-- A load of a whole block's buffer reads the block. -/
theorem block_read (M : MemB) (x : Blk) (inb) :
    View.readAt (Elt Ideal) M.view (Rect.unit (s := S512x128) ![0, 0] ![512, 128] inb).toLoadRect (M.view.rep x) = x :=
  View.readAt_rep_full M.view x inb

/-- The body's run on these buffers. -/
abbrev theRun := run c i a7 h7 a8 h8 a9 h9 a10 h10 a11 h11 a12 h12 T0 T1 T2 T3 x0 x1 x2 x3 x4 s0 s1 s2 y

/-- The scratch buffers as the branch that clears them leaves them. -/
def ini0 : Buf0 c := if h : run.sl.v13 i T3 = 1#1 then
  sm0.view.writes (Elt Ideal) s0 [⟨Rect.unit ![0, 0, 0] S2x512x1.size inb_S2x512x1_S2x512x1_0_0_0, k0_pay32 (F := Ideal)⟩] else s0
def ini1 : Buf1 c := if h : run.sl.v13 i T3 = 1#1 then
  sm1.view.writes (Elt Ideal) s1 [⟨Rect.unit ![0, 0, 0] S2x512x1.size inb_S2x512x1_S2x512x1_0_0_0, k0_pay33 (F := Ideal)⟩] else s1
def ini2 : Buf2 c := if h : run.sl.v13 i T3 = 1#1 then
  sm2.view.writes (Elt Ideal) s2 [⟨Rect.unit ![0, 0, 0] S2x512x128.size inb_S2x512x128_S2x512x128_0_0_0, k0_pay34 (F := Ideal)⟩] else s2

theorem read_scr0 (f : Buf0 c) : (View.whole cc0_scratch0).read (Elt Ideal) f = f := rfl
theorem read_scr1 (f : Buf1 c) : (View.whole cc0_scratch1).read (Elt Ideal) f = f := rfl
theorem read_scr2 (f : Buf2 c) : (View.whole cc0_scratch2).read (Elt Ideal) f = f := rfl

/-- The three buffers' halves, read and written. -/
theorem col_read0 (f : Buf0 c) (j : Fin 2) (inb) :
    col (View.readAt (Elt Ideal) (View.whole cc0_scratch0) (Rect.unit (s := S2x512x1) ![j.val, 0, 0] ![1, 512, 1] inb).toLoadRect f)
      = half f j := col_readAt (View.whole cc0_scratch0) f j inb
theorem col_read1 (f : Buf1 c) (j : Fin 2) (inb) :
    col (View.readAt (Elt Ideal) (View.whole cc0_scratch1) (Rect.unit (s := S2x512x1) ![j.val, 0, 0] ![1, 512, 1] inb).toLoadRect f)
      = half f j := col_readAt (View.whole cc0_scratch1) f j inb
theorem rows_read2 (f : Buf2 c) (j : Fin 2) (inb) :
    rows (View.readAt (Elt Ideal) (View.whole cc0_scratch2) (Rect.unit (s := S2x512x128) ![j.val, 0, 0] ![1, 512, 128] inb).toLoadRect f)
      = halfAcc f j := rows_readAt (View.whole cc0_scratch2) f j inb
theorem stores0 (f : Buf0 c) (i0 i1) (w0 w1 : Col) (j : Fin 2) :
    half ((View.whole cc0_scratch0).writes (Elt Ideal) f
      [⟨Rect.unit (s := S2x512x1) ![1, 0, 0] ![1, 512, 1] i1, w1⟩, ⟨Rect.unit (s := S2x512x1) ![0, 0, 0] ![1, 512, 1] i0, w0⟩]) j
      = col (if j = 0 then w0 else w1) :=
  (congrArg (half · j) (read_scr0 c _).symm).trans (half_stores (View.whole cc0_scratch0) f i0 i1 w0 w1 j)
theorem stores1 (f : Buf1 c) (i0 i1) (w0 w1 : Col) (j : Fin 2) :
    half ((View.whole cc0_scratch1).writes (Elt Ideal) f
      [⟨Rect.unit (s := S2x512x1) ![1, 0, 0] ![1, 512, 1] i1, w1⟩, ⟨Rect.unit (s := S2x512x1) ![0, 0, 0] ![1, 512, 1] i0, w0⟩]) j
      = col (if j = 0 then w0 else w1) :=
  (congrArg (half · j) (read_scr1 c _).symm).trans (half_stores (View.whole cc0_scratch1) f i0 i1 w0 w1 j)
theorem stores2 (f : Buf2 c) (i0 i1) (w0 w1 : Acc) (j : Fin 2) :
    halfAcc ((View.whole cc0_scratch2).writes (Elt Ideal) f
      [⟨Rect.unit (s := S2x512x128) ![1, 0, 0] ![1, 512, 128] i1, w1⟩, ⟨Rect.unit (s := S2x512x128) ![0, 0, 0] ![1, 512, 128] i0, w0⟩]) j
      = rows (if j = 0 then w0 else w1) :=
  (congrArg (halfAcc · j) (read_scr2 c _).symm).trans (halfAcc_stores (View.whole cc0_scratch2) f i0 i1 w0 w1 j)

theorem masked_acc0 {q k : ℕ} (hq : q < 8) (hk : k < 8) (x0 x1 x2 x3 v : Tile) (m l : Col) (x : Acc) (a : Fin 512) (d : Fin 128) :
    k0_pay28 (F := Ideal) v (k0_pay27 (BitVec.ofNat 32 q) (BitVec.ofNat 32 k) lanes x0 x1 x2 x3) m l x (ix3 0 a d)
      = newAcc (masked q k (score 0 x0 x1 x2 x3)) (col m) (col l) v (rows x) a d :=
  acc_at v _ _ (pay27_at hq hk x0 x1 x2 x3) m l x a d

theorem newAcc_congr {S : Mat} {v : Tile} {m m' l l' : Fin 512 → EReal} {x x' : Fin 512 → Fin 128 → EReal}
    (hm : m = m') (hl : l = l') (hx : x = x') (a : Fin 512) (d : Fin 128) : newAcc S m l v x a d = newAcc S m' l' v x' a d := by
  rw [hm, hl, hx]

section
variable (h2 : run.sl.v21 i T3 = 1#1) (h3 : ¬ run.sl.v28 i T3 = 1#1) (h4 : ¬ run.sl.v35 i T3 = 1#1) (h5 : ¬ run.sl.v42 i T3 = 1#1)
include h2 h3 h4 h5

theorem plain_stats_max (j : Fin 2) : half (theRun c i a7 h7 a8 h8 a9 h9 a10 h10 a11 h11 a12 h12 T0 T1 T2 T3 x0 x1 x2 x3 x4 s0 s1 s2 y).1 j = newMax (score j.val x0 x1 x2 x3) (half (ini0 c i T3 s0) j) := by
  dsimp only [theRun, run]
  simp only [dif_pos h2, dif_neg h3, dif_neg h4, dif_neg h5]
  simp only [run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.v14, run.sl.v72, run.sl.v73, run.sl.v78, run.sl.v79, run.sl.v84, run.sl.v84_1, run.sl.v91, run.sl.v96, run.sl.v117, run.sl.v119, run.sl.v122, run.sl.v126, run.sl.v128, run.sl.v143, run.sl.v150, run.sl.v152, run.sl.cst_58]
  simp only [dif_pos h2, dif_neg h3, dif_neg h4, dif_neg h5, block_read]
  refine (stores0 c _ _ _ _ _ j).trans (funext fun a => ?_)
  fin_cases j
  · exact (plain_max0 x0 x1 x2 x3 _ a).trans (congrArg (newMax (score 0 x0 x1 x2 x3) · a) (col_read0 c _ 0 _))
  · exact (plain_max1 _ _ (pay11_at x0 x1 x2 x3) _ a).trans (congrArg (newMax (score 1 x0 x1 x2 x3) · a) (col_read0 c _ 1 _))

theorem plain_stats_sum (j : Fin 2) : half (theRun c i a7 h7 a8 h8 a9 h9 a10 h10 a11 h11 a12 h12 T0 T1 T2 T3 x0 x1 x2 x3 x4 s0 s1 s2 y).2.1 j
    = newSum (score j.val x0 x1 x2 x3) (half (ini0 c i T3 s0) j) (half (ini1 c i T3 s1) j) := by
  dsimp only [theRun, run]
  simp only [dif_pos h2, dif_neg h3, dif_neg h4, dif_neg h5]
  simp only [run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.v14, run.sl.v72, run.sl.v73, run.sl.v78, run.sl.v79, run.sl.v84, run.sl.v84_1, run.sl.v91, run.sl.v96, run.sl.v117, run.sl.v119, run.sl.v122, run.sl.v126, run.sl.v128, run.sl.v143, run.sl.v150, run.sl.v152, run.sl.cst_58]
  simp only [dif_pos h2, dif_neg h3, dif_neg h4, dif_neg h5, block_read]
  refine (stores1 c _ _ _ _ _ j).trans (funext fun a => ?_)
  fin_cases j
  · exact (plain_sum0 x0 x1 x2 x3 _ _ a).trans (congrArg₂ (newSum (score 0 x0 x1 x2 x3) · · a) (col_read0 c _ 0 _) (col_read1 c _ 0 _))
  · exact (plain_sum1 _ _ (pay11_at x0 x1 x2 x3) _ _ a).trans (congrArg₂ (newSum (score 1 x0 x1 x2 x3) · · a) (col_read0 c _ 1 _) (col_read1 c _ 1 _))

theorem plain_stats_acc : (theRun c i a7 h7 a8 h8 a9 h9 a10 h10 a11 h11 a12 h12 T0 T1 T2 T3 x0 x1 x2 x3 x4 s0 s1 s2 y).2.2.1 = ini2 c i T3 s2 := by
  dsimp only [theRun, run]
  simp only [dif_pos h2, dif_neg h3, dif_neg h4, dif_neg h5]
  rfl

end

section
variable (h2 : ¬ run.sl.v21 i T3 = 1#1) (h3 : run.sl.v28 i T3 = 1#1) (h4 : ¬ run.sl.v35 i T3 = 1#1) (h5 : ¬ run.sl.v42 i T3 = 1#1)
  {q k : ℕ} (hq : q < 8) (hk : k < 8) (hT0 : run.sl.r i T0 = BitVec.ofNat 32 q) (hT1 : run.sl.r_1 i T1 = BitVec.ofNat 32 k)
include h2 h3 h4 h5 hq hk hT0 hT1

theorem masked_stats_max (j : Fin 2) : half (theRun c i a7 h7 a8 h8 a9 h9 a10 h10 a11 h11 a12 h12 T0 T1 T2 T3 x0 x1 x2 x3 x4 s0 s1 s2 y).1 j = newMax (masked q k (score j.val x0 x1 x2 x3)) (half (ini0 c i T3 s0) j) := by
  dsimp only [theRun, run]
  simp only [dif_neg h2, dif_pos h3, dif_neg h4, dif_neg h5]
  simp only [run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.v14, run.sl.v72, run.sl.v73, run.sl.v78, run.sl.v79, run.sl.v84, run.sl.v84_1, run.sl.v91, run.sl.v96, run.sl.v117, run.sl.v119, run.sl.v122, run.sl.v126, run.sl.v128, run.sl.v143, run.sl.v150, run.sl.v152, run.sl.cst_58]
  simp only [dif_neg h2, dif_pos h3, dif_neg h4, dif_neg h5, block_read, hT0, hT1]
  refine (stores0 c _ _ _ _ _ j).trans (funext fun a => ?_)
  fin_cases j
  · exact (masked_max0 _ _ (pay12_at hq hk x0 x1 x2 x3) _ a).trans (congrArg (newMax (masked q k (score 0 x0 x1 x2 x3)) · a) (col_read0 c _ 0 _))
  · exact (masked_max1 hq hk x0 x1 x2 x3 _ a).trans (congrArg (newMax (masked q k (score 1 x0 x1 x2 x3)) · a) (col_read0 c _ 1 _))

theorem masked_stats_sum (j : Fin 2) : half (theRun c i a7 h7 a8 h8 a9 h9 a10 h10 a11 h11 a12 h12 T0 T1 T2 T3 x0 x1 x2 x3 x4 s0 s1 s2 y).2.1 j
    = newSum (masked q k (score j.val x0 x1 x2 x3)) (half (ini0 c i T3 s0) j) (half (ini1 c i T3 s1) j) := by
  dsimp only [theRun, run]
  simp only [dif_neg h2, dif_pos h3, dif_neg h4, dif_neg h5]
  simp only [run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.v14, run.sl.v72, run.sl.v73, run.sl.v78, run.sl.v79, run.sl.v84, run.sl.v84_1, run.sl.v91, run.sl.v96, run.sl.v117, run.sl.v119, run.sl.v122, run.sl.v126, run.sl.v128, run.sl.v143, run.sl.v150, run.sl.v152, run.sl.cst_58]
  simp only [dif_neg h2, dif_pos h3, dif_neg h4, dif_neg h5, block_read, hT0, hT1]
  refine (stores1 c _ _ _ _ _ j).trans (funext fun a => ?_)
  fin_cases j
  · exact (masked_sum0 _ _ (pay12_at hq hk x0 x1 x2 x3) _ _ a).trans (congrArg₂ (newSum (masked q k (score 0 x0 x1 x2 x3)) · · a) (col_read0 c _ 0 _) (col_read1 c _ 0 _))
  · exact (masked_sum1 hq hk x0 x1 x2 x3 _ _ a).trans (congrArg₂ (newSum (masked q k (score 1 x0 x1 x2 x3)) · · a) (col_read0 c _ 1 _) (col_read1 c _ 1 _))

theorem masked_stats_acc : (theRun c i a7 h7 a8 h8 a9 h9 a10 h10 a11 h11 a12 h12 T0 T1 T2 T3 x0 x1 x2 x3 x4 s0 s1 s2 y).2.2.1 = ini2 c i T3 s2 := by
  dsimp only [theRun, run]
  simp only [dif_neg h2, dif_pos h3, dif_neg h4, dif_neg h5]
  rfl

end

section
variable (h2 : ¬ run.sl.v21 i T3 = 1#1) (h3 : ¬ run.sl.v28 i T3 = 1#1) (h4 : run.sl.v35 i T3 = 1#1) (h5 : ¬ run.sl.v42 i T3 = 1#1)
include h2 h3 h4 h5

theorem plain_pass_max : (theRun c i a7 h7 a8 h8 a9 h9 a10 h10 a11 h11 a12 h12 T0 T1 T2 T3 x0 x1 x2 x3 x4 s0 s1 s2 y).1 = ini0 c i T3 s0 := by
  dsimp only [theRun, run]
  simp only [dif_neg h2, dif_neg h3, dif_pos h4, dif_neg h5]
  rfl

theorem plain_pass_sum : (theRun c i a7 h7 a8 h8 a9 h9 a10 h10 a11 h11 a12 h12 T0 T1 T2 T3 x0 x1 x2 x3 x4 s0 s1 s2 y).2.1 = ini1 c i T3 s1 := by
  dsimp only [theRun, run]
  simp only [dif_neg h2, dif_neg h3, dif_pos h4, dif_neg h5]
  rfl

theorem plain_pass_acc (j : Fin 2) : halfAcc (theRun c i a7 h7 a8 h8 a9 h9 a10 h10 a11 h11 a12 h12 T0 T1 T2 T3 x0 x1 x2 x3 x4 s0 s1 s2 y).2.2.1 j
    = newAcc (score j.val x0 x1 x2 x3) (half (ini0 c i T3 s0) j) (half (ini1 c i T3 s1) j) x4 (halfAcc (ini2 c i T3 s2) j) := by
  dsimp only [theRun, run]
  simp only [dif_neg h2, dif_neg h3, dif_pos h4, dif_neg h5]
  simp only [run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.v14, run.sl.v72, run.sl.v73, run.sl.v78, run.sl.v79, run.sl.v84, run.sl.v84_1, run.sl.v91, run.sl.v96, run.sl.v117, run.sl.v119, run.sl.v122, run.sl.v126, run.sl.v128, run.sl.v143, run.sl.v150, run.sl.v152, run.sl.cst_58]
  simp only [dif_neg h2, dif_neg h3, dif_pos h4, dif_neg h5, block_read]
  refine (stores2 c _ _ _ _ _ j).trans (funext fun a => funext fun d => ?_)
  fin_cases j
  · exact (plain_acc0 x0 x1 x2 x3 x4 _ _ _ a d).trans (newAcc_congr (col_read0 c _ 0 _) (col_read1 c _ 0 _) (rows_read2 c _ 0 _) a d)
  · exact (plain_acc1 x0 x1 x2 x3 x4 _ _ _ a d).trans (newAcc_congr (col_read0 c _ 1 _) (col_read1 c _ 1 _) (rows_read2 c _ 1 _) a d)

end

section
variable (h2 : ¬ run.sl.v21 i T3 = 1#1) (h3 : ¬ run.sl.v28 i T3 = 1#1) (h4 : ¬ run.sl.v35 i T3 = 1#1) (h5 : run.sl.v42 i T3 = 1#1)
  {q k : ℕ} (hq : q < 8) (hk : k < 8) (hT0 : run.sl.r i T0 = BitVec.ofNat 32 q) (hT1 : run.sl.r_1 i T1 = BitVec.ofNat 32 k)
include h2 h3 h4 h5 hq hk hT0 hT1

theorem masked_pass_max : (theRun c i a7 h7 a8 h8 a9 h9 a10 h10 a11 h11 a12 h12 T0 T1 T2 T3 x0 x1 x2 x3 x4 s0 s1 s2 y).1 = ini0 c i T3 s0 := by
  dsimp only [theRun, run]
  simp only [dif_neg h2, dif_neg h3, dif_neg h4, dif_pos h5]
  rfl

theorem masked_pass_sum : (theRun c i a7 h7 a8 h8 a9 h9 a10 h10 a11 h11 a12 h12 T0 T1 T2 T3 x0 x1 x2 x3 x4 s0 s1 s2 y).2.1 = ini1 c i T3 s1 := by
  dsimp only [theRun, run]
  simp only [dif_neg h2, dif_neg h3, dif_neg h4, dif_pos h5]
  rfl

theorem masked_pass_acc (j : Fin 2) : halfAcc (theRun c i a7 h7 a8 h8 a9 h9 a10 h10 a11 h11 a12 h12 T0 T1 T2 T3 x0 x1 x2 x3 x4 s0 s1 s2 y).2.2.1 j
    = newAcc (masked q k (score j.val x0 x1 x2 x3)) (half (ini0 c i T3 s0) j) (half (ini1 c i T3 s1) j) x4 (halfAcc (ini2 c i T3 s2) j) := by
  dsimp only [theRun, run]
  simp only [dif_neg h2, dif_neg h3, dif_neg h4, dif_pos h5]
  simp only [run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.v14, run.sl.v72, run.sl.v73, run.sl.v78, run.sl.v79, run.sl.v84, run.sl.v84_1, run.sl.v91, run.sl.v96, run.sl.v117, run.sl.v119, run.sl.v122, run.sl.v126, run.sl.v128, run.sl.v143, run.sl.v150, run.sl.v152, run.sl.cst_58]
  simp only [dif_neg h2, dif_neg h3, dif_neg h4, dif_pos h5, block_read, hT0, hT1]
  refine (stores2 c _ _ _ _ _ j).trans (funext fun a => funext fun d => ?_)
  fin_cases j
  · exact (masked_acc0 hq hk x0 x1 x2 x3 x4 _ _ _ a d).trans (newAcc_congr (col_read0 c _ 0 _) (col_read1 c _ 0 _) (rows_read2 c _ 0 _) a d)
  · exact (masked_acc1 hq hk x0 x1 x2 x3 x4 _ _ _ a d).trans (newAcc_congr (col_read0 c _ 1 _) (col_read1 c _ 1 _) (rows_read2 c _ 1 _) a d)

end

/-! ## The cleared buffers -/

section
variable (h1 : run.sl.v13 i T3 = 1#1)
include h1

theorem ini0_clear (j : Fin 2) : half (ini0 c i T3 s0) j = fun _ => ⊥ := by
  unfold ini0
  rw [dif_pos h1]
  funext a
  refine (congrFun (read_scr0 c _) _).symm.trans ((View.read_writes_cons_hit_of_coords (View.whole cc0_scratch0) s0 _ _ _
    (ix3 j a (0 : Fin 1) : S2x512x1.Idx) (ix3 j a 0) fun x => ?_).trans bot_bits)
  fin_cases x
  · exact (by omega : j.val = 0 + 1 * j.val)
  · exact (by omega : a.val = 0 + 1 * a.val)
  · rfl

theorem ini1_clear (j : Fin 2) : half (ini1 c i T3 s1) j = fun _ => 0 := by
  unfold ini1
  rw [dif_pos h1]
  funext a
  refine (congrFun (read_scr1 c _) _).symm.trans ((View.read_writes_cons_hit_of_coords (View.whole cc0_scratch1) s1 _ _ _
    (ix3 j a (0 : Fin 1) : S2x512x1.Idx) (ix3 j a 0) fun x => ?_).trans (Ideal.ofBits_zero .f32))
  fin_cases x
  · exact (by omega : j.val = 0 + 1 * j.val)
  · exact (by omega : a.val = 0 + 1 * a.val)
  · rfl

theorem ini2_clear (j : Fin 2) : halfAcc (ini2 c i T3 s2) j = fun _ _ => 0 := by
  unfold ini2
  rw [dif_pos h1]
  funext a d
  refine (congrFun (read_scr2 c _) _).symm.trans ((View.read_writes_cons_hit_of_coords (View.whole cc0_scratch2) s2 _ _ _
    (ix3 j a d : S2x512x128.Idx) (ix3 j a d) fun x => ?_).trans (Ideal.ofBits_zero .f32))
  fin_cases x
  · exact (by omega : j.val = 0 + 1 * j.val)
  · exact (by omega : a.val = 0 + 1 * a.val)
  · exact (by omega : d.val = 0 + 1 * d.val)

end

section
variable (h1 : ¬ run.sl.v13 i T3 = 1#1)
include h1

theorem ini0_keep : ini0 c i T3 s0 = s0 := dif_neg h1
theorem ini1_keep : ini1 c i T3 s1 = s1 := dif_neg h1
theorem ini2_keep : ini2 c i T3 s2 = s2 := dif_neg h1

end

/-! ## The stored block -/

theorem stored (h6 : k0_cond6 (run.sl.r_2 i T3) = 1#1) (a : Fin 512) (d : Fin 128) :
    a12.view.read (Elt Ideal) (theRun c i a7 h7 a8 h8 a9 h9 a10 h10 a11 h11 a12 h12 T0 T1 T2 T3 x0 x1 x2 x3 x4 s0 s1 s2 y).2.2.2.1 (ix2 a d)
      = if d.val < 64 then halfAcc (theRun c i a7 h7 a8 h8 a9 h9 a10 h10 a11 h11 a12 h12 T0 T1 T2 T3 x0 x1 x2 x3 x4 s0 s1 s2 y).2.2.1 0 a d
        else halfAcc (theRun c i a7 h7 a8 h8 a9 h9 a10 h10 a11 h11 a12 h12 T0 T1 T2 T3 x0 x1 x2 x3 x4 s0 s1 s2 y).2.2.1 1 a d := by
  rw [show (theRun c i a7 h7 a8 h8 a9 h9 a10 h10 a11 h11 a12 h12 T0 T1 T2 T3 x0 x1 x2 x3 x4 s0 s1 s2 y).2.2.2.1 = _ from dif_pos h6]
  refine (View.read_writes_cons_hit_of_coords a12.view _ _ _ _ (ix2 a d : S512x128.Idx) (ix2 a d) fun x => ?_).trans ?_
  · fin_cases x
    · exact (by omega : a.val = 0 + 1 * a.val)
    · exact (by omega : d.val = 0 + 1 * d.val)
  · refine (out_at _ _ a d).trans ?_
    unfold run.sl.v49 run.sl.v51
    exact congrArg₂ (fun x y : EReal => if d.val < 64 then x else y) (congrFun (congrFun (rows_read2 c _ 0 _) a) d)
      (congrFun (congrFun (rows_read2 c _ 1 _) a) d)

end Cert.AttentionIdeal.Attn
end
-- ==== Proof.AttentionIdeal.Frame.lean ====
/- The attention call's proof data and its launch. The three scratch buffers follow a trajectory over the grid points
   (each point's body run from where the point before left them); the first point clears them, so it does not matter
   what they held at the start. The output's buffer after a storing point is what the run leaves there. -/
module

public import proofs.«01_k».proof.Proof.AttentionIdeal.Run
public import Idealize.ShloMosaic.Lib.Pipeline.TableIdle
public import Idealize.ShloMosaic.Lib.Writes

@[expose] public section

set_option maxRecDepth 16384

noncomputable section

namespace Cert.AttentionIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttentionIdeal Cert.AttentionIdeal.Gen

local notation "𝕄" => MT nD τ sig Unit (Elt Ideal) ℕ (UR sig nD τ) ℕ

variable (m : (ℓ : Loc nD τ sig) → Buf (Elt Ideal) ℓ) (ρ : Dev nD → PrngReg)

/-! ## The windows' blocks and buffers -/

/-- Window `w`'s block at point `t`, read off its array. -/
def iblk (c : Dev nD) (w : Fin cfgA.W) (t : Fin cfgA.N) : ((cfgA.win w).xblock (cfgA.grid.coords t)).Idx → Elt Ideal (cfgA.win w).elt :=
  ((cfgA.win w).blk t).view.read (Elt Ideal) (V m c (Pipeline.arrRef spec0 w))

/-- Each window's staging buffer at point `t`. -/
abbrev ms0 (t : Fin cfgA.N) : MemB := spec0_0.stage (cfgA.slots t 0)
abbrev hs0 (t : Fin cfgA.N) : (ms0 t).IsWhole := hstage0_0 ((cfgA.slots t 0).cast nbuf0_0)
abbrev ms1 (t : Fin cfgA.N) : MemB := spec0_1.stage (cfgA.slots t 1)
abbrev hs1 (t : Fin cfgA.N) : (ms1 t).IsWhole := hstage0_1 ((cfgA.slots t 1).cast nbuf0_1)
abbrev ms2 (t : Fin cfgA.N) : MemB := spec0_2.stage (cfgA.slots t 2)
abbrev hs2 (t : Fin cfgA.N) : (ms2 t).IsWhole := hstage0_2 ((cfgA.slots t 2).cast nbuf0_2)
abbrev ms3 (t : Fin cfgA.N) : MemB := spec0_3.stage (cfgA.slots t 3)
abbrev hs3 (t : Fin cfgA.N) : (ms3 t).IsWhole := hstage0_3 ((cfgA.slots t 3).cast nbuf0_3)
abbrev ms4 (t : Fin cfgA.N) : MemB := spec0_4.stage (cfgA.slots t 4)
abbrev hs4 (t : Fin cfgA.N) : (ms4 t).IsWhole := hstage0_4 ((cfgA.slots t 4).cast nbuf0_4)
abbrev ms5 (t : Fin cfgA.N) : MemB := spec0_5.stage (cfgA.slots t 5)
abbrev hs5 (t : Fin cfgA.N) : (ms5 t).IsWhole := hstage0_5 ((cfgA.slots t 5).cast nbuf0_5)

/-! ## The body's run at a point -/

/-- What the scratch buffers hold. -/
abbrev St (c : Dev nD) : Type := Buf0 c × Buf1 c × Buf2 c

/-- The body's run at point `t`, from scratch contents `s` and output contents `y`. -/
abbrev runAt (c : Dev nD) (t : Fin cfgA.N) (s : St c) (y : Blk) :=
  run c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 y

/-- The output's buffer before anything is known of it. -/
def blank : Blk := (Memref.whole cc0_stg5_0 : MemB).view.read (Elt Ideal) (Memref.whole cc0_stg5_0 : MemB).view.junk

/-- The scratch contents after point `t`'s body. -/
def next (c : Dev nD) (t : Fin cfgA.N) (s : St c) : St c :=
  ((runAt m c t s blank).1, (runAt m c t s blank).2.1, (runAt m c t s blank).2.2.1)

/-- The output block point `t`'s body leaves. -/
def outAt (c : Dev nD) (t : Fin cfgA.N) (s : St c) : Blk :=
  (ms5 t).view.read (Elt Ideal) (runAt m c t s blank).2.2.2.1

/-- The scratch contents do not depend on what the output's buffer held. -/
theorem next_eq (c : Dev nD) (t : Fin cfgA.N) (s : St c) (y : Blk) :
    ((runAt m c t s y).1, (runAt m c t s y).2.1, (runAt m c t s y).2.2.1) = next m c t s := rfl

/-- A store of a whole buffer leaves nothing of what it held. -/
theorem writes_whole {sp : Space} {s : Shape} {e : EltTy} {M : Memref sig .tc sp s e} (hM : M.IsWhole)
    (f g : M.view.ty.Contents (Elt Ideal)) (L : List (View.Piece (Elt Ideal) s e))
    (hL : ∀ y, ∃ pc ∈ L, y ∈ pc.1.set) : M.view.writes (Elt Ideal) f L = M.view.writes (Elt Ideal) g L := by
  have h := (View.read_writes_of_cover (Val := Elt Ideal) M.view f M.view g L hL)
  exact (hM.eq_unread h).trans (hM.eq_unread rfl).symm

/-- Nothing but the cleared buffers is read after a point that clears them. -/
theorem next_first (c : Dev nD) (t : Fin cfgA.N) (h : flag (grid0.coords t) = 10#32) (s s' : St c) :
    next m c t s = next m c t s' := by
  have hb : run.sl.v13 (grid0.coords t) T3 = 1#1 := by
    show Scalar.cmpi .ne (Scalar.extui (Scalar.cmpi .ne (Scalar.andi (flag (grid0.coords t)) 2#32) 0#32)) 0#32 = 1#1
    rw [h]; decide
  have e0 := writes_whole (M := sm0) (Memref.isWhole_whole _) s.1 s'.1
    [⟨Rect.unit ![0, 0, 0] S2x512x1.size inb_S2x512x1_S2x512x1_0_0_0, k0_pay32 (F := Ideal)⟩]
    (View.cover_of_tiledL _ S2x512x1.size (by sl_kernel_rfl))
  have e1 := writes_whole (M := sm1) (Memref.isWhole_whole _) s.2.1 s'.2.1
    [⟨Rect.unit ![0, 0, 0] S2x512x1.size inb_S2x512x1_S2x512x1_0_0_0, k0_pay33 (F := Ideal)⟩]
    (View.cover_of_tiledL _ S2x512x1.size (by sl_kernel_rfl))
  have e2 := writes_whole (M := sm2) (Memref.isWhole_whole _) s.2.2 s'.2.2
    [⟨Rect.unit ![0, 0, 0] S2x512x128.size inb_S2x512x128_S2x512x128_0_0_0, k0_pay34 (F := Ideal)⟩]
    (View.cover_of_tiledL _ S2x512x128.size (by sl_kernel_rfl))
  unfold next
  refine Prod.ext ?_ (Prod.ext ?_ ?_)
  all_goals
    dsimp only [runAt, run]
    simp only [run.sl.r_10, run.sl.r_11, run.sl.r_13, run.sl.r_14, run.sl.r_18, run.sl.r_3, run.sl.r_4, run.sl.r_5,
      run.sl.v117, run.sl.v119, run.sl.v122, run.sl.v126, run.sl.v128, run.sl.v143, run.sl.v150, run.sl.v152,
      run.sl.v72, run.sl.v73, run.sl.v78, run.sl.v79, run.sl.v84, run.sl.v84_1, run.sl.v91, run.sl.v96,
      dif_pos hb, e0, e1, e2]

/-- Where the flag word is not 13 the output's buffer is left alone, -/
theorem out_idle (c : Dev nD) (t : Fin cfgA.N) (h : ¬ k0_cond6 (flag (grid0.coords t)) = 1#1) (s : St c) (y : Blk) :
    (runAt m c t s y).2.2.2.1 = (hs5 t).unread y :=
  dif_neg h

/-- and where it is 13 the whole of it is stored. -/
theorem out_last (c : Dev nD) (t : Fin cfgA.N) (h : k0_cond6 (flag (grid0.coords t)) = 1#1) (s : St c) (y : Blk) :
    (ms5 t).view.read (Elt Ideal) (runAt m c t s y).2.2.2.1 = outAt m c t s := by
  unfold outAt
  rw [show (runAt m c t s y).2.2.2.1 = _ from dif_pos h, show (runAt m c t s blank).2.2.2.1 = _ from dif_pos h]
  exact View.read_writes_of_cover _ _ _ _ _ (View.cover_of_tiledL _ S512x128.size (by sl_kernel_rfl))

/-! ## The trajectory and the proof data -/

/-- The scratch contents after each point's body. -/
def traj (c : Dev nD) : ℕ → St c
  | 0 => next m c ⟨0, by decide⟩ (sm0.view.junk, sm1.view.junk, sm2.view.junk)
  | n + 1 => if h : n + 1 < cfgA.N then next m c ⟨n + 1, h⟩ (traj c n) else traj c n

/-- The body at a point, run from where the point before ended, ends where the trajectory says. -/
theorem next_traj (c : Dev nD) (t : Fin cfgA.N) (s : St c) (hs : t.val ≠ 0 → s = traj m c (t.val - 1)) :
    next m c t s = traj m c t.val := by
  obtain ⟨n, hn⟩ := t
  cases n with
  | zero => exact next_first m c _ ((point_facts ⟨0, hn⟩).2 rfl) _ _
  | succ n =>
    rw [hs (Nat.succ_ne_zero n)]
    show _ = traj m c (n + 1)
    rw [traj, dif_pos hn]
    rfl

/-- The invariant before point `k`: the scratch buffers on the trajectory, the tables, the generator's register. -/
def Phi (c : Dev nD) (k : ℕ) : sProp 𝕄 :=
  iprop((∃ s : St c, ⌜k ≠ 0 → s = traj m c (k - 1)⌝ ∗ scr c s.1 s.2.1 s.2.2) ∗ Pipeline.ΦT pre0 tabs c ∗ ∃ r, prngReg c r)

/-- The proof data: each input's buffer keeps its block; the output's holds what a storing point's body leaves. -/
def dats (_ : Fin 1) (c : Dev nD) : Dat τ (Elt Ideal) Unit ℕ (UR sig nD τ) ℕ cfgA c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t (traj m c (t.val - 1))
  Φ k := Phi m c k.val
  q _ := fullShare
  owed _ := 0

theorem A_eq (c : Dev nD) (w : Fin cfgA.W) : (dats m 0 c).A w = V m c (Pipeline.arrRef spec0 w) := by
  dsimp only [dats]

/-- Each input's buffer holds its block before every body. -/
theorem before0 (c : Dev nD) (t : Fin cfgA.N) (d) : (dats m 0 c).before 0 t d = iblk m c 0 t :=
  ((dats m 0 c).before_in_eq_fetched 0 rfl (fun _ => rfl) (fun _ _ _ => rfl) (fun t => rfl) t d).trans rfl
theorem before1 (c : Dev nD) (t : Fin cfgA.N) (d) : (dats m 0 c).before 1 t d = iblk m c 1 t :=
  ((dats m 0 c).before_in_eq_fetched 1 rfl (fun _ => rfl) (fun _ _ _ => rfl) (fun t => rfl) t d).trans rfl
theorem before2 (c : Dev nD) (t : Fin cfgA.N) (d) : (dats m 0 c).before 2 t d = iblk m c 2 t :=
  ((dats m 0 c).before_in_eq_fetched 2 rfl (fun _ => rfl) (fun _ _ _ => rfl) (fun t => rfl) t d).trans rfl
theorem before3 (c : Dev nD) (t : Fin cfgA.N) (d) : (dats m 0 c).before 3 t d = iblk m c 3 t :=
  ((dats m 0 c).before_in_eq_fetched 3 rfl (fun _ => rfl) (fun _ _ _ => rfl) (fun t => rfl) t d).trans rfl
theorem before4 (c : Dev nD) (t : Fin cfgA.N) (d) : (dats m 0 c).before 4 t d = iblk m c 4 t :=
  ((dats m 0 c).before_in_eq_fetched 4 rfl (fun _ => rfl) (fun _ _ _ => rfl) (fun t => rfl) t d).trans rfl

theorem after5 (c : Dev nD) (t : Fin cfgA.N) : (dats m 0 c).after 5 t = outAt m c t (traj m c (t.val - 1)) := by
  dsimp only [dats]

/-- The output's buffer after the body: stored, or as found. -/
def outPost (c : Dev nD) (t : Fin cfgA.N) : sProp 𝕄 :=
  match cfgA.idle (5 : Fin 6) (cfgA.grid.coords t) with
  | true =>
    match (cfgA.win (5 : Fin 6)).flush t with
    | false => iprop(∃ d, owns (c : Thread nD τ) (ms5 t) fullShare ((dats m 0 c).before 5 t d))
    | true => owns (c : Thread nD τ) (ms5 t) fullShare ((dats m 0 c).after 5 t)
  | false => owns (c : Thread nD τ) (ms5 t) fullShare ((dats m 0 c).after 5 t)

/-- From what the run leaves in the output's buffer. -/
theorem outPost_of (c : Dev nD) (t : Fin cfgA.N) (s : St c) (hs : t.val ≠ 0 → s = traj m c (t.val - 1)) (d) :
    ((ms5 t).view.loc (c : Thread nD τ) ↦[(ms5 t).view.set]{fullShare}
        (runAt m c t s ((dats m 0 c).before 5 t d)).2.2.2.1) ⊢ outPost m c t := by
  unfold outPost
  obtain ⟨⟨hf, hi⟩ | ⟨hf, hi, hfl⟩, h0⟩ := point_facts t
  · have h6 : k0_cond6 (flag (grid0.coords t)) = 1#1 := by rw [hf]; decide
    have ht : t.val ≠ 0 := fun h => by have := h0 h; rw [hf] at this; exact absurd this (by decide)
    rw [hi, after5, ← hs ht]
    unfold owns
    iintro H
    iexists _
    isplitr
    swap
    · iexact H
    ipureintro
    exact out_last m c t h6 s _
  · have h6 : ¬ k0_cond6 (flag (grid0.coords t)) = 1#1 := by
      rcases hf with hf | hf | hf | hf | hf <;> rw [hf] <;> decide
    rw [hi, hfl, out_idle m c t h6]
    unfold owns
    iintro H
    iexists d, _
    isplitr
    swap
    · iexact H
    ipureintro
    exact (hs5 t).read_unread _

/-- The body at point `t`, as the pipeline calls it. -/
abbrev bodyAt (t : Fin cfgA.N) : Prog (TpuEff nD τ sig (Elt Ideal) Λ₀ .tc) PUnit :=
  bodyOn (grid0.coords t) (ms0 t) (hs0 t) (ms1 t) (hs1 t) (ms2 t) (hs2 t) (ms3 t) (hs3 t) (ms4 t) (hs4 t) (ms5 t) (hs5 t)

set_option maxHeartbeats 1600000 in
/-- The body at any point keeps the invariant, the inputs' blocks, and what the output's buffer is to hold. -/
theorem sound_body (c : Dev nD) (t : Fin cfgA.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ d, owns (c : Thread nD τ) (ms3 t) fullShare ((dats m 0 c).before 3 t d))
        ∗ (∃ d, owns (c : Thread nD τ) (ms4 t) fullShare ((dats m 0 c).before 4 t d))
        ∗ (∃ d, owns (c : Thread nD τ) (ms5 t) fullShare ((dats m 0 c).before 5 t d)))
      ⊢ wp frame (wpE (defs₀ (F := Ideal)) Variants.none c none) Set.univ (bodyAt t) fun _ =>
        iprop((dats m 0 c).Φ t.succ ∗ (dats m 0 c).owesAt () t.succ
          ∗ owns (c : Thread nD τ) (ms0 t) fullShare ((dats m 0 c).after 0 t)
          ∗ owns (c : Thread nD τ) (ms1 t) fullShare ((dats m 0 c).after 1 t)
          ∗ owns (c : Thread nD τ) (ms2 t) fullShare ((dats m 0 c).after 2 t)
          ∗ owns (c : Thread nD τ) (ms3 t) fullShare ((dats m 0 c).after 3 t)
          ∗ owns (c : Thread nD τ) (ms4 t) fullShare ((dats m 0 c).after 4 t)
          ∗ outPost m c t) := by
  simp only [before0, before1, before2, before3, before4]
  rw [show (dats m 0 c).Φ t.castSucc = Phi m c t.val from rfl, show (dats m 0 c).Φ t.succ = Phi m c (t.val + 1) from rfl,
    show (dats m 0 c).owesAt () t.succ = (dats m 0 c).owesAt () t.castSucc from rfl,
    show (dats m 0 c).after 0 t = iblk m c 0 t from rfl, show (dats m 0 c).after 1 t = iblk m c 1 t from rfl,
    show (dats m 0 c).after 2 t = iblk m c 2 t from rfl, show (dats m 0 c).after 3 t = iblk m c 3 t from rfl,
    show (dats m 0 c).after 4 t = iblk m c 4 t from rfl]
  unfold Phi
  rw [PhiT_eq]
  iintro ⟨⟨⟨%s, %hs, HS⟩, ⟨HT0, HT1, HT2, HT3⟩, HR⟩, Ho, ⟨%d0, H0⟩, ⟨%d1, H1⟩, ⟨%d2, H2⟩, ⟨%d3, H3⟩, ⟨%d4, H4⟩, ⟨%d5, H5⟩⟩
  iapply (runAt m c t s ((dats m 0 c).before 5 t d5)).2.2.2.2
  unfold ins
  isplitl [H0 H1 H2 H3 H4 HT0 HT1 HT2 HT3]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    iframe
  isplitl [H5]; · iexact H5
  isplitl [HS]; · iexact HS
  iintro ⟨⟨H0, H1, H2, H3, H4, HT0, HT1, HT2, HT3⟩, H5, HS⟩
  isplitl [HS HT0 HT1 HT2 HT3 HR]
  · isplitl [HS]
    · iexists next m c t s
      isplitr
      · ipureintro
        exact fun _ => next_traj m c t s hs
      iexact HS
    iframe
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply (outPost_of m c t s hs d5)
  iexact H5

/-- The body obligation, at every point. -/
theorem body_obligation (c : Dev nD) : BodyObligation (dats m 0 c) (defs₀ (F := Ideal)) Variants.none () Set.univ := fun t => by
  rw [bigSep_W0, bigSep_W0]
  exact sound_body m c t

/-! ## The launch -/

/-- The invariant holds at the start, -/
theorem phi_start (c : Dev nD) :
    iprop(Pipeline.ΦA spec0 c ∗ Pipeline.ΦT pre0 tabs c) ⊢ ((dats m 0 c).Φ 0 : sProp 𝕄) := by
  rw [show (dats m 0 c).Φ 0 = Phi m c 0 from rfl]
  unfold Phi Pipeline.ΦA scr
  rw [scopedRest0_eq]
  iintro ⟨⟨⟨⟨%f0, H0⟩, ⟨%f1, H1⟩, ⟨%f2, H2⟩⟩, HR⟩, HT⟩
  isplitl [H0 H1 H2]
  · iexists (f0, f1, f2)
    isplitr
    · ipureintro
      exact fun h => absurd rfl h
    iframe
  iframe

/-- and gives back the scratch buffers and the register at the end. -/
theorem phi_end (c : Dev nD) : ((dats m 0 c).Φ (Fin.last cfgA.N) : sProp 𝕄) ⊢ Pipeline.ΦA spec0 c := by
  rw [show (dats m 0 c).Φ (Fin.last cfgA.N) = Phi m c cfgA.N from rfl]
  unfold Phi Pipeline.ΦA scr
  rw [scopedRest0_eq]
  iintro ⟨⟨%s, -, H0, H1, H2⟩, -, HR⟩
  isplitl [H0 H1 H2]
  · isplitl [H0]
    · iexists _; iexact H0
    isplitl [H1]
    · iexists _; iexact H1
    iexists _; iexact H2
  iexact HR

set_option backward.isDefEq.respectTransparency.types false in
/-- The run: every array ends at what the proof data say, every other buffer as the pipeline found it, and every
    semaphore at zero. -/
theorem run_main : θ_run defs (onTc (τ := τ) (main (F := Ideal))) (s₀ m ρ)
    (fun r => (Pipeline.FramePost (Pipeline.pin pcfgs fun _ => adm) (dats m) 0 (V m)) r ∧ r.2.sem = fun _ => 0) :=
  Pipeline.θ_run_frameP_track (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hpf := V_pre m)
    (hin := phi_start m) (hout := phi_end m) (hQ' := fun _ h => h)

/-- The arguments end as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).1 0).trans (((dats m 0 c).arrAt_in 0 rfl _).trans ((A_eq m c 0).trans (V_arg0 m c))),
      ((h.1 c).1 1).trans (((dats m 0 c).arrAt_in 1 rfl _).trans ((A_eq m c 1).trans (V_arg1 m c))),
      ((h.1 c).1 2).trans (((dats m 0 c).arrAt_in 2 rfl _).trans ((A_eq m c 2).trans (V_arg2 m c))),
      ((h.1 c).1 3).trans (((dats m 0 c).arrAt_in 3 rfl _).trans ((A_eq m c 3).trans (V_arg3 m c))),
      ((h.1 c).1 4).trans (((dats m 0 c).arrAt_in 4 rfl _).trans ((A_eq m c 4).trans (V_arg4 m c)))⟩) (run_main m ρ)

/-- The arguments end as they were and every semaphore at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main m ρ))

end Cert.AttentionIdeal.Attn

end
-- ==== Proof.AttentionIdeal.Tables.lean ====
/- The step tables read as tile numbers: which query tile and which key tile a point works on, how many key tiles its
   pass has been through, and where each window's block lies. -/
module

public import proofs.«01_k».proof.Proof.AttentionIdeal.Frame

@[expose] public section

set_option maxRecDepth 16384

noncomputable section

namespace Cert.AttentionIdeal.Attn

open Idealize.ShloMosaic Idealize.ShloMosaic.TcCoe Idealize.ShloMosaic.Tactic
open Idealize.SL Idealize.SL.Sem
open Cert.AttentionIdeal Cert.AttentionIdeal.Gen

/-- The query tile and the key tile of a point, as the body reads them. -/
def qword (i : grid0.Coords) : BitVec 32 :=
  View.readAt (Elt Ideal) tb0.view (Rect.unit (s := S72) (k0_off1 i) S1.size (k0_off1_inb i)).toLoadRect T0
    (Shape.Idx.first (numel1_S1.symm ▸ Nat.one_pos))
def kword (i : grid0.Coords) : BitVec 32 :=
  View.readAt (Elt Ideal) tb1.view (Rect.unit (s := S72) (k0_off1 i) S1.size (k0_off1_inb i)).toLoadRect T1
    (Shape.Idx.first (numel1_S1.symm ▸ Nat.one_pos))

theorem r_eq (i : grid0.Coords) : run.sl.r i T0 = qword i := rfl
theorem r_1_eq (i : grid0.Coords) : run.sl.r_1 i T1 = kword i := rfl

/-- Query tile, key tile, and whether the point belongs to the pass that sums the values. -/
def qt (t : Fin cfgA.N) : ℕ := (qword (grid0.coords t)).toNat
def kt (t : Fin cfgA.N) : ℕ := (kword (grid0.coords t)).toNat
def second (t : Fin cfgA.N) : Bool := (flag (grid0.coords t) &&& 1#32) == 1#32

/-- The key tiles the first pass, and the second, have been through when the point's body is done. -/
def done1 (t : Fin cfgA.N) : ℕ := if second t then qt t + 1 else kt t + 1
def done2 (t : Fin cfgA.N) : ℕ := if second t then kt t + 1 else 0

/-- The point before. -/
def before (t : Fin cfgA.N) : Fin cfgA.N := ⟨t.val - 1, Nat.lt_of_le_of_lt (Nat.sub_le _ _) t.isLt⟩

/-- The batch row and the head pair of a point. -/
def bt (t : Fin cfgA.N) : ℕ := t.val / 144
def pt (t : Fin cfgA.N) : ℕ := t.val / 72 % 2

abbrev StepFacts (t : Fin cfgA.N) : Prop :=
  qt t < 8 ∧ kt t ≤ qt t
  ∧ (flag (grid0.coords t) = 2#32 ∨ flag (grid0.coords t) = 0#32 ∨ flag (grid0.coords t) = 1#32 → kt t < qt t)
  ∧ (flag (grid0.coords t) = 13#32 → kt t = qt t)
  ∧ (flag (grid0.coords t) = 10#32 ∨ flag (grid0.coords t) = 2#32 → kt t = 0)
  ∧ (¬ (flag (grid0.coords t) = 10#32 ∨ flag (grid0.coords t) = 2#32) → t.val ≠ 0 ∧ bt (before t) = bt t ∧ pt (before t) = pt t
      ∧ qt (before t) = qt t ∧ done1 (before t) = (if second t then qt t + 1 else kt t) ∧ done2 (before t) = (if second t then kt t else 0))
  ∧ (∀ a, (cfgA.win 0).index t a = ![bt t * 8 + qt t, pt t] a) ∧ (∀ a, (cfgA.win 1).index t a = ![bt t * 8 + qt t, pt t] a)
  ∧ (∀ a, (cfgA.win 2).index t a = ![bt t * 8 + kt t, pt t] a) ∧ (∀ a, (cfgA.win 3).index t a = ![bt t * 8 + kt t, pt t] a)
  ∧ (second t = true → ∀ a, (cfgA.win 4).index t a = ![bt t * 8 + kt t, pt t] a)
  ∧ (∀ a, (cfgA.win 5).index t a = ![bt t * 8 + qt t, pt t] a)

theorem steps_1 : ∀ t : Fin cfgA.N, 0 ≤ t.val → t.val < 144 → StepFacts t := by decide +kernel
theorem steps_2 : ∀ t : Fin cfgA.N, 144 ≤ t.val → t.val < 288 → StepFacts t := by decide +kernel
theorem steps_3 : ∀ t : Fin cfgA.N, 288 ≤ t.val → t.val < 432 → StepFacts t := by decide +kernel
theorem steps_4 : ∀ t : Fin cfgA.N, 432 ≤ t.val → t.val < 576 → StepFacts t := by decide +kernel

theorem step_facts (t : Fin cfgA.N) : StepFacts t := by
  have h4 : t.val < 576 := Nat.lt_of_lt_of_eq t.isLt (show cfgA.N = 576 from N_0)
  rcases Nat.lt_or_ge t.val 144 with h1 | h1
  · exact steps_1 t (Nat.zero_le _) h1
  rcases Nat.lt_or_ge t.val 288 with h2 | h2
  · exact steps_2 t h1 h2
  rcases Nat.lt_or_ge t.val 432 with h3 | h3
  · exact steps_3 t h2 h3
  · exact steps_4 t h3 h4

/-- Every batch row, head pair and query tile has a point that stores its block. -/
theorem last_point : ∀ (b : Fin 4) (p : Fin 2) (q : Fin 8), ∃ t : Fin cfgA.N, flag (grid0.coords t) = 13#32 ∧ bt t = b.val
    ∧ pt t = p.val ∧ qt t = q.val := by
  have h : ∀ q : Fin 8, ∃ s : Fin 72, ∀ (b : Fin 4) (p : Fin 2) (h : (b.val * 2 + p.val) * 72 + s.val < cfgA.N),
      flag (grid0.coords ⟨(b.val * 2 + p.val) * 72 + s.val, h⟩) = 13#32 ∧ qt ⟨(b.val * 2 + p.val) * 72 + s.val, h⟩ = q.val := by
    decide +kernel
  intro b p q
  obtain ⟨s, hs⟩ := h q
  have hN : (b.val * 2 + p.val) * 72 + s.val < cfgA.N := by
    show _ < 576
    omega
  refine ⟨_, (hs b p hN).1, ?_, ?_, (hs b p hN).2⟩
  · show ((b.val * 2 + p.val) * 72 + s.val) / 144 = b.val
    omega
  · show ((b.val * 2 + p.val) * 72 + s.val) / 72 % 2 = p.val
    omega

end Cert.AttentionIdeal.Attn
end
-- ==== Proof.AttentionIdeal.Online.lean ====
/- The softmax of a row whose scores come in tiles of 512: the running maximum, the running sum (rescaled where the maximum
   grows) and the weighted sum of the values, over the extended reals, against the row taken at once. -/
module

public import Idealize.ShloMosaic.PureOps.Ideal

@[expose] public section

noncomputable section

namespace Cert.AttentionIdeal.Attn

open Idealize.ShloMosaic Finset

theorem exp_nonneg (x : EReal) : 0 ≤ Ideal.exp x := by
  induction x with
  | bot => exact le_rfl
  | top => exact le_top
  | coe r => exact EReal.coe_nonneg.2 (Real.exp_pos r).le

theorem exp_bot : Ideal.exp ⊥ = 0 := rfl

theorem exp_sub_top (x : EReal) : Ideal.exp (x - ⊤) = 0 := by rw [EReal.sub_top]; rfl

theorem exp_bot_sub (x : EReal) : Ideal.exp (⊥ - x) = 0 := by rw [sub_eq_add_neg, EReal.bot_add]; rfl

/-- Moving an exponential from one maximum to a greater one. -/
theorem exp_rescale {x m m' : EReal} (h : x ≤ m) (h' : m ≤ m') :
    Ideal.exp (m - m') * Ideal.exp (x - m) = Ideal.exp (x - m') := by
  induction m' with
  | top => rw [exp_sub_top, exp_sub_top, zero_mul]
  | bot => rw [le_bot_iff.1 h'] at h ⊢; rw [le_bot_iff.1 h, exp_bot_sub, zero_mul]
  | coe r' =>
    induction m with
    | top => exact absurd h' (by simp)
    | bot => rw [le_bot_iff.1 h, exp_bot_sub, exp_bot_sub, zero_mul]
    | coe r =>
      induction x with
      | top => exact absurd h (by simp)
      | bot => rw [exp_bot_sub, exp_bot_sub, mul_zero]
      | coe y =>
        rw [← EReal.coe_sub, ← EReal.coe_sub, ← EReal.coe_sub]
        show ((Real.exp (r - r') : ℝ) : EReal) * ((Real.exp (y - r) : ℝ) : EReal) = ((Real.exp (y - r') : ℝ) : EReal)
        rw [← EReal.coe_mul, ← Real.exp_add]
        congr 2
        ring

theorem mul_sum_of_nonneg {ι : Type*} (c : EReal) (s : Finset ι) (f : ι → EReal) (h : ∀ i, 0 ≤ f i) :
    c * ∑ i ∈ s, f i = ∑ i ∈ s, c * f i := by
  classical
  induction s using Finset.induction_on with
  | empty => simp
  | insert a s ha ih =>
    rw [sum_insert ha, sum_insert ha, EReal.left_distrib_of_nonneg (h a) (sum_nonneg fun i _ => h i), ih]

/-- The maximum of the first `n` tiles. -/
def top (S : ℕ → Fin 512 → EReal) : ℕ → EReal
  | 0 => ⊥
  | n + 1 => max (top S n) (univ.fold max ⊥ (S n))

/-- The sum of the first `n` tiles' exponentials against the maximum of these tiles. -/
def mass (S : ℕ → Fin 512 → EReal) (n : ℕ) : EReal := ∑ i ∈ range n, ∑ b, Ideal.exp (S i b - top S n)

variable (S : ℕ → Fin 512 → EReal)

theorem top_le_iff (n : ℕ) (x : EReal) : top S n ≤ x ↔ ∀ i < n, ∀ b, S i b ≤ x := by
  induction n with
  | zero => simp [top]
  | succ n ih =>
    rw [top, max_le_iff, ih, fold_max_le]
    constructor
    · rintro ⟨h, -, h'⟩ i hi b
      rcases Nat.lt_succ_iff_lt_or_eq.1 hi with hi | rfl
      exacts [h i hi b, h' b (mem_univ b)]
    · exact fun h => ⟨fun i hi => h i (by omega), bot_le, fun b _ => h n (by omega) b⟩

theorem le_top_of {n i : ℕ} (h : i < n) (b : Fin 512) : S i b ≤ top S n := (top_le_iff S n _).1 le_rfl i h b

theorem top_le_succ (n : ℕ) : top S n ≤ top S (n + 1) := le_max_left _ _

/-- The running sum after one more tile. -/
theorem mass_succ (n : ℕ) :
    Ideal.exp (top S n - top S (n + 1)) * mass S n + ∑ b, Ideal.exp (S n b - top S (n + 1)) = mass S (n + 1) := by
  rw [mass, mass, sum_range_succ, mul_sum_of_nonneg _ _ _ fun i => sum_nonneg fun b _ => exp_nonneg _]
  refine congrArg (· + _) (sum_congr rfl fun i hi => ?_)
  rw [mul_sum_of_nonneg _ _ _ fun b => exp_nonneg _]
  exact sum_congr rfl fun b _ => exp_rescale (le_top_of S (mem_range.1 hi) b) (top_le_succ S n)

/-- Tiles with no score are not seen by the maximum … -/
theorem top_eq {n N : ℕ} (hN : n ≤ N) (h : ∀ i, n ≤ i → ∀ b, S i b = ⊥) : top S N = top S n := by
  refine le_antisymm ((top_le_iff S _ _).2 fun i hi b => ?_) ((top_le_iff S _ _).2 fun i hi b => le_top_of S (by omega) b)
  by_cases hn : i < n
  · exact le_top_of S hn b
  · rw [h i (by omega) b]; exact bot_le

/-- … nor by a sum of terms that vanish there. -/
theorem sum_tiles_eq {n N : ℕ} (hN : n ≤ N) (f : ℕ → EReal) (h : ∀ i, n ≤ i → f i = 0) :
    ∑ i ∈ range N, f i = ∑ i ∈ range n, f i :=
  (sum_subset (range_mono hN) fun i _ hi => h i (by simpa using hi)).symm

theorem mass_eq {n N : ℕ} (hN : n ≤ N) (h : ∀ i, n ≤ i → ∀ b, S i b = ⊥) : mass S N = mass S n := by
  rw [mass, mass, top_eq S hN h]
  exact sum_tiles_eq hN _ fun i hi => sum_eq_zero fun b _ => by rw [h i hi b, exp_bot_sub]

/-- One finite score and no infinite one: the sum is positive. -/
theorem mass_ne_zero {n : ℕ} (h : ∀ i b, S i b ≠ ⊤) {i : ℕ} (hi : i < n) {b : Fin 512} {r : ℝ} (hr : S i b = r) :
    mass S n ≠ 0 := by
  have hlt : ∀ n, top S n < ⊤ := fun n => by
    induction n with
    | zero => exact bot_lt_top
    | succ n ih => exact max_lt ih ((fold_max_lt _).2 ⟨bot_lt_top, fun b _ => (h n b).lt_top⟩)
  have hle : (r : EReal) ≤ top S n := hr ▸ le_top_of S hi b
  obtain ⟨t, ht⟩ : ∃ t : ℝ, top S n = t := ⟨_, (EReal.coe_toReal (hlt n).ne (fun h0 => by simp [h0] at hle)).symm⟩
  have hpos : 0 < Ideal.exp (S i b - top S n) := by
    rw [hr, ht, ← EReal.coe_sub]
    exact EReal.coe_pos.2 (Real.exp_pos _)
  have h1 : Ideal.exp (S i b - top S n) ≤ ∑ b, Ideal.exp (S i b - top S n) :=
    single_le_sum (f := fun b => Ideal.exp (S i b - top S n)) (fun b _ => exp_nonneg _) (mem_univ b)
  have h2 : ∑ b, Ideal.exp (S i b - top S n) ≤ mass S n :=
    single_le_sum (f := fun i => ∑ b, Ideal.exp (S i b - top S n)) (fun i _ => sum_nonneg fun b _ => exp_nonneg _) (mem_range.2 hi)
  exact (hpos.trans_le (h1.trans h2)).ne'

theorem weight {l : EReal} (h : l ≠ 0) (e : EReal) : e * Ideal.div 1 l = Ideal.div e l := by
  rw [Ideal.div, Ideal.div, if_neg h, if_neg h, one_mul]

/-- A sum over 4096 keys, cut in 8 tiles. -/
theorem sum_keys (f : Fin 4096 → EReal) (g : ℕ → Fin 512 → EReal) (h : ∀ k b (i : ℕ), k.val = 512 * i + b.val → f k = g i b) :
    ∑ k, f k = ∑ i ∈ range 8, ∑ b, g i b := by
  rw [sum_range fun i => ∑ b, g i b, ← Fintype.sum_prod_type' fun (i : Fin 8) b => g i b]
  refine (Fintype.sum_equiv (finProdFinEquiv : Fin 8 × Fin 512 ≃ Fin (8 * 512)) _ _ fun p => ?_).symm
  exact (h _ _ _ (by simp [finProdFinEquiv, Nat.add_comm])).symm

/-- The maximum over 4096 keys. -/
theorem max_keys (f : Fin 4096 → EReal) (h : ∀ (k : Fin 4096) (b : Fin 512) (i : ℕ), k.val = 512 * i + b.val → f k = S i b) :
    univ.fold max ⊥ f = top S 8 := by
  refine le_antisymm (fold_max_le _ |>.2 ⟨bot_le, fun k _ => ?_⟩) ((top_le_iff S _ _).2 fun i hi b => ?_)
  · rw [h k ⟨k.val % 512, by omega⟩ (k.val / 512) (by simp only; omega)]
    exact le_top_of S (by omega) _
  · rw [← h ⟨512 * i + b.val, by omega⟩ b i rfl]
    exact (fold_max_le _).1 le_rfl |>.2 _ (mem_univ _)

/-- THE ROW: the tiles' weighted sum up to tile `n`, past which there is no score, is the softmax of all the scores applied
    to the values. -/
theorem row_eq {n : ℕ} (hn : n ≤ 8) (f v : Fin 4096 → EReal) (V : ℕ → Fin 512 → EReal)
    (hf : ∀ (k : Fin 4096) (b : Fin 512) (i : ℕ), k.val = 512 * i + b.val → f k = S i b)
    (hv : ∀ (k : Fin 4096) (b : Fin 512) (i : ℕ), k.val = 512 * i + b.val → v k = V i b)
    (hbot : ∀ i, n ≤ i → ∀ b, S i b = ⊥) (hl : mass S n ≠ 0) :
    ∑ i ∈ range n, ∑ b, Ideal.exp (S i b - top S n) * Ideal.div 1 (mass S n) * V i b
      = ∑ k, v k * Ideal.div (Ideal.exp (f k - univ.fold max ⊥ f)) (∑ k, Ideal.exp (f k - univ.fold max ⊥ f)) := by
  have hm : univ.fold max ⊥ f = top S n := (max_keys S f hf).trans (top_eq S hn hbot)
  have hs : ∑ k, Ideal.exp (f k - univ.fold max ⊥ f) = mass S n := by
    rw [hm, sum_keys _ (fun i b => Ideal.exp (S i b - top S n)) fun k b i h => by rw [hf k b i h], mass]
    exact sum_tiles_eq hn _ fun i hi => sum_eq_zero fun b _ => by rw [hbot i hi b, exp_bot_sub]
  rw [hs, hm, sum_keys _ (fun i b => Ideal.exp (S i b - top S n) * Ideal.div 1 (mass S n) * V i b) fun k b i h => by
    rw [hf k b i h, hv k b i h, weight hl, mul_comm]]
  exact (sum_tiles_eq hn _ fun i hi => sum_eq_zero fun b _ => by rw [hbot i hi b, exp_bot_sub, zero_mul, zero_mul]).symm

end Cert.AttentionIdeal.Attn

end
-- ==== Proof.AttentionIdeal.Value.lean ====
/- What the attention call leaves in its result. By induction along the grid the scratch buffers hold, row by row, the
   maximum, the sum of exponentials and the weighted sum of the values over the key tiles gone through so far; the point
   that stores an output block has been through all of them. -/
module

public import proofs.«01_k».proof.Proof.AttentionIdeal.Step
public import proofs.«01_k».proof.Proof.AttentionIdeal.Tables
public import proofs.«01_k».proof.Proof.AttentionIdeal.Online
public import Idealize.ShloMosaic.Lib.Pipeline.ValueKit
public import Idealize.ShloMosaic.Lib.Pipeline.Covers

@[expose] public section

set_option maxRecDepth 16384

noncomputable section

namespace Cert.AttentionIdeal.Attn

open Idealize.ShloMosaic Idealize.ShloMosaic.TcCoe Idealize.ShloMosaic.Tactic
open Idealize.SL Idealize.SL.Sem
open Cert.AttentionIdeal Cert.AttentionIdeal.Gen
open Finset

/-! ## The scores of a query row -/

abbrev Arr := S16384x256.Idx → EReal

/-- An array at natural-number coordinates. -/
def entry (x : Arr) (r l : ℕ) : EReal := if h : r < 16384 ∧ l < 256 then x (ix2 ⟨r, h.1⟩ ⟨l, h.2⟩) else 0

theorem entry_eq (x : Arr) (r : Fin 16384) (l : Fin 256) : entry x r.val l.val = x (ix2 r l) := dif_pos ⟨r.isLt, l.isLt⟩

/-- The inner product, over the lanes of head `j` of pair `p`, of a query row with a key row. -/
def pairScore (q aq k ak : Arr) (p j r r' : ℕ) : EReal :=
  part 64 j (fun l => entry q r (128 * p + l)) (fun l => entry k r' (128 * p + l))
    + part 6 j (fun l => entry aq r (128 * p + l)) (fun l => entry ak r' (128 * p + l))

/-- Row `n` of batch row `b`: its scores, tile by tile, the later keys' masked. -/
def scores (q aq k ak : Arr) (b p j n : ℕ) (i : ℕ) (c : Fin 512) : EReal :=
  if 512 * i + c.val ≤ n then pairScore q aq k ak p j (4096 * b + n) (4096 * b + (512 * i + c.val)) else ⊥

/-- The weighted sum of the values over the first `n'` key tiles, with the maximum and the sum of the first `n`. -/
def weighted (S : ℕ → Fin 512 → EReal) (v : Arr) (b p n n' : ℕ) (d : ℕ) : EReal :=
  ∑ i ∈ range n', ∑ c : Fin 512, Ideal.exp (S i c - top S n) * Ideal.div 1 (mass S n) * entry v (4096 * b + (512 * i + c.val)) (128 * p + d)

/-- An entry of the result: row `r`, lane `l`. -/
def result (q aq k ak v : Arr) (r l : ℕ) : EReal :=
  weighted (scores q aq k ak (r / 4096) (l / 128) (l % 128 / 64) (r % 4096)) v (r / 4096) (l / 128)
    (r % 4096 / 512 + 1) (r % 4096 / 512 + 1) (l % 128)

/-! ## One step on a row -/

theorem newMax_top (S : ℕ → Fin 512 → EReal) (s : Mat) (m : Fin 512 → EReal) (a : Fin 512) (k : ℕ) (hs : s a = S k)
    (hm : m a = top S k) : newMax s m a = top S (k + 1) := by
  unfold newMax
  rw [hs, hm]
  rfl

theorem newSum_mass (S : ℕ → Fin 512 → EReal) (s : Mat) (m l : Fin 512 → EReal) (a : Fin 512) (k : ℕ) (hs : s a = S k)
    (hm : m a = top S k) (hl : l a = mass S k) : newSum s m l a = mass S (k + 1) := by
  unfold newSum
  rw [newMax_top S s m a k hs hm, hs, hm, hl]
  exact mass_succ S k

theorem newAcc_weighted (S : ℕ → Fin 512 → EReal) (s : Mat) (m l : Fin 512 → EReal) (v : Tile) (acc : Fin 512 → Fin 128 → EReal)
    (V : Arr) (b p n k : ℕ) (a : Fin 512) (d : Fin 128) (hs : s a = S k) (hm : m a = top S n) (hl : l a = mass S n)
    (hv : ∀ c, v (ix2 c d) = entry V (4096 * b + (512 * k + c.val)) (128 * p + d)) (ha : acc a d = weighted S V b p n k d) :
    newAcc s m l v acc a d = weighted S V b p n (k + 1) d := by
  unfold newAcc weighted
  rw [sum_range_succ, hs, hm, hl, ha]
  exact congrArg (_ + ·) (sum_congr rfl fun c _ => congrArg (_ * ·) (hv c))

/-! ## The blocks -/

variable (m : (ℓ : Loc nD τ sig) → Buf (Elt Ideal) ℓ) (c : Dev nD)

/-- The arguments. -/
abbrev argQ : Arr := m ⟨c, main_arg0⟩
abbrev argAQ : Arr := m ⟨c, main_arg1⟩
abbrev argK : Arr := m ⟨c, main_arg2⟩
abbrev argAK : Arr := m ⟨c, main_arg3⟩
abbrev argV : Arr := m ⟨c, main_arg4⟩

theorem bt_lt (t : Fin cfgA.N) : bt t < 4 := by
  have h4 : t.val < 576 := Nat.lt_of_lt_of_eq t.isLt (show cfgA.N = 576 from N_0)
  show t.val / 144 < 4
  omega
theorem pt_lt (t : Fin cfgA.N) : pt t < 2 := Nat.mod_lt _ (by decide)

theorem blk0 (t : Fin cfgA.N) (a : Fin 512) (l : Fin 128) :
    iblk m c 0 t (ix2 a l) = entry (argQ m c) (4096 * bt t + (512 * qt t + a.val)) (128 * pt t + l.val) := by
  have hf := step_facts t
  have hb := bt_lt t
  have hp := pt_lt t
  unfold entry
  rw [dif_pos ⟨by have := hf.1; omega, by omega⟩]
  refine (congrArg (V m c main_arg0) (?_ : _ = ix2 _ _)).trans (congrFun (V_arg0 m c) _)
  funext x
  apply Fin.ext
  refine (Pipeline.Window.rect_emb_val (cfgA.win 0) t (ix2 a l) x).trans ?_
  rw [hf.2.2.2.2.2.2.1 x]
  fin_cases x
  · show (bt t * 8 + qt t) * 512 + a.val = 4096 * bt t + (512 * qt t + a.val)
    omega
  · show pt t * 128 + l.val = 128 * pt t + l.val
    omega

theorem blk1 (t : Fin cfgA.N) (a : Fin 512) (l : Fin 128) :
    iblk m c 1 t (ix2 a l) = entry (argAQ m c) (4096 * bt t + (512 * qt t + a.val)) (128 * pt t + l.val) := by
  have hf := step_facts t
  have hb := bt_lt t
  have hp := pt_lt t
  unfold entry
  rw [dif_pos ⟨by have := hf.1; omega, by omega⟩]
  refine (congrArg (V m c main_arg1) (?_ : _ = ix2 _ _)).trans (congrFun (V_arg1 m c) _)
  funext x
  apply Fin.ext
  refine (Pipeline.Window.rect_emb_val (cfgA.win 1) t (ix2 a l) x).trans ?_
  rw [hf.2.2.2.2.2.2.2.1 x]
  fin_cases x
  · show (bt t * 8 + qt t) * 512 + a.val = 4096 * bt t + (512 * qt t + a.val)
    omega
  · show pt t * 128 + l.val = 128 * pt t + l.val
    omega

theorem blk2 (t : Fin cfgA.N) (a : Fin 512) (l : Fin 128) :
    iblk m c 2 t (ix2 a l) = entry (argK m c) (4096 * bt t + (512 * kt t + a.val)) (128 * pt t + l.val) := by
  have hf := step_facts t
  have hb := bt_lt t
  have hp := pt_lt t
  unfold entry
  rw [dif_pos ⟨by have := hf.1; have := hf.2.1; omega, by omega⟩]
  refine (congrArg (V m c main_arg2) (?_ : _ = ix2 _ _)).trans (congrFun (V_arg2 m c) _)
  funext x
  apply Fin.ext
  refine (Pipeline.Window.rect_emb_val (cfgA.win 2) t (ix2 a l) x).trans ?_
  rw [hf.2.2.2.2.2.2.2.2.1 x]
  fin_cases x
  · show (bt t * 8 + kt t) * 512 + a.val = 4096 * bt t + (512 * kt t + a.val)
    omega
  · show pt t * 128 + l.val = 128 * pt t + l.val
    omega

theorem blk3 (t : Fin cfgA.N) (a : Fin 512) (l : Fin 128) :
    iblk m c 3 t (ix2 a l) = entry (argAK m c) (4096 * bt t + (512 * kt t + a.val)) (128 * pt t + l.val) := by
  have hf := step_facts t
  have hb := bt_lt t
  have hp := pt_lt t
  unfold entry
  rw [dif_pos ⟨by have := hf.1; have := hf.2.1; omega, by omega⟩]
  refine (congrArg (V m c main_arg3) (?_ : _ = ix2 _ _)).trans (congrFun (V_arg3 m c) _)
  funext x
  apply Fin.ext
  refine (Pipeline.Window.rect_emb_val (cfgA.win 3) t (ix2 a l) x).trans ?_
  rw [hf.2.2.2.2.2.2.2.2.2.1 x]
  fin_cases x
  · show (bt t * 8 + kt t) * 512 + a.val = 4096 * bt t + (512 * kt t + a.val)
    omega
  · show pt t * 128 + l.val = 128 * pt t + l.val
    omega

theorem blk4 (t : Fin cfgA.N) (h2 : second t = true) (a : Fin 512) (l : Fin 128) :
    iblk m c 4 t (ix2 a l) = entry (argV m c) (4096 * bt t + (512 * kt t + a.val)) (128 * pt t + l.val) := by
  have hf := step_facts t
  have hb := bt_lt t
  have hp := pt_lt t
  unfold entry
  rw [dif_pos ⟨by have := hf.1; have := hf.2.1; omega, by omega⟩]
  refine (congrArg (V m c main_arg4) (?_ : _ = ix2 _ _)).trans (congrFun (V_arg4 m c) _)
  funext x
  apply Fin.ext
  refine (Pipeline.Window.rect_emb_val (cfgA.win 4) t (ix2 a l) x).trans ?_
  rw [hf.2.2.2.2.2.2.2.2.2.2.1 h2 x]
  fin_cases x
  · show (bt t * 8 + kt t) * 512 + a.val = 4096 * bt t + (512 * kt t + a.val)
    omega
  · show pt t * 128 + l.val = 128 * pt t + l.val
    omega

/-- Row `a` of the query tile at point `t`, head `j`: its scores. -/
def rowAt (t : Fin cfgA.N) (j : Fin 2) (a : Fin 512) : ℕ → Fin 512 → EReal :=
  scores (argQ m c) (argAQ m c) (argK m c) (argAK m c) (bt t) (pt t) j.val (512 * qt t + a.val)

/-- The masked tile is the row's scores at that tile; -/
theorem masked_row (t : Fin cfgA.N) (j : Fin 2) (a : Fin 512) :
    masked (qt t) (kt t) (score j.val (iblk m c 0 t) (iblk m c 1 t) (iblk m c 2 t) (iblk m c 3 t)) a = rowAt m c t j a (kt t) := by
  funext b
  unfold masked rowAt scores score pairScore
  simp only [blk0 m c t, blk1 m c t, blk2 m c t, blk3 m c t]

/-- below the diagonal nothing is masked. -/
theorem plain_row (t : Fin cfgA.N) (h : kt t < qt t) (j : Fin 2) (a : Fin 512) :
    score j.val (iblk m c 0 t) (iblk m c 1 t) (iblk m c 2 t) (iblk m c 3 t) a = rowAt m c t j a (kt t) := by
  rw [← masked_row]
  funext b
  exact (if_pos (by omega)).symm

/-! ## The trajectory -/

/-- What the scratch buffers hold after point `t`. -/
structure Holds (t : Fin cfgA.N) (n1 n2 : ℕ) (s : St c) : Prop where
  top (j : Fin 2) (a : Fin 512) : half s.1 j a = Attn.top (rowAt m c t j a) n1
  mass (j : Fin 2) (a : Fin 512) : half s.2.1 j a = Attn.mass (rowAt m c t j a) n1
  acc (j : Fin 2) (a : Fin 512) (d : Fin 128) :
    halfAcc s.2.2 j a d = weighted (rowAt m c t j a) (argV m c) (bt t) (pt t) (qt t + 1) n2 d.val

/-- The scratch buffers past the branch that clears them. -/
abbrev ini (t : Fin cfgA.N) (s : St c) : St c :=
  (ini0 c (grid0.coords t) T3 s.1, ini1 c (grid0.coords t) T3 s.2.1, ini2 c (grid0.coords t) T3 s.2.2)

/-- A cleared start. -/
theorem holds_clear (t : Fin cfgA.N) (h1 : run.sl.v13 (grid0.coords t) T3 = 1#1) (s : St c) : Holds m c t 0 0 (ini c t s) where
  top j a := congrFun (ini0_clear c _ T3 s.1 h1 j) a
  mass j a := (congrFun (ini1_clear c _ T3 s.2.1 h1 j) a).trans (sum_range_zero _).symm
  acc j a d := (congrFun (congrFun (ini2_clear c _ T3 s.2.2 h1 j) a) d).trans (sum_range_zero _).symm

theorem ini_keep (t : Fin cfgA.N) (h1 : ¬ run.sl.v13 (grid0.coords t) T3 = 1#1) (s : St c) : ini c t s = s :=
  Prod.ext (ini0_keep c _ T3 s.1 h1) (Prod.ext (ini1_keep c _ T3 s.2.1 h1) (ini2_keep c _ T3 s.2.2 h1))

theorem qword_eq (t : Fin cfgA.N) : run.sl.r (grid0.coords t) T0 = BitVec.ofNat 32 (qt t) := (BitVec.ofNat_toNat _ _).symm ▸ rfl
theorem kword_eq (t : Fin cfgA.N) : run.sl.r_1 (grid0.coords t) T1 = BitVec.ofNat 32 (kt t) := (BitVec.ofNat_toNat _ _).symm ▸ rfl

/-- The five branches' conditions, from the flag word. -/
def clears (f : BitVec 32) : BitVec 1 := Scalar.cmpi .ne (Scalar.extui (Scalar.cmpi .ne (Scalar.andi f 2#32) 0#32) : BitVec 32) 0#32
def takes (A B : BitVec 1) (f : BitVec 32) : BitVec 1 :=
  Scalar.cmpi .ne (Scalar.extui (Scalar.andi (Scalar.xori (Scalar.xori (Scalar.cmpi .ne (Scalar.andi f 1#32) 0#32) A) 1#1)
    (Scalar.xori (Scalar.xori (Scalar.cmpi .ne (Scalar.andi f 8#32) 0#32) B) 1#1)) : BitVec 32) 0#32
theorem v13_eq (i : grid0.Coords) : run.sl.v13 i T3 = clears (flag i) := rfl
theorem v21_eq (i : grid0.Coords) : run.sl.v21 i T3 = takes 0#1 0#1 (flag i) := rfl
theorem v28_eq (i : grid0.Coords) : run.sl.v28 i T3 = takes 0#1 1#1 (flag i) := rfl
theorem v35_eq (i : grid0.Coords) : run.sl.v35 i T3 = takes 1#1 0#1 (flag i) := rfl
theorem v42_eq (i : grid0.Coords) : run.sl.v42 i T3 = takes 1#1 1#1 (flag i) := rfl

/-- A point of the first pass: one more tile in the maximum and in the sum. -/
theorem plain_stats_holds (t : Fin cfgA.N) (s : St c) (hk : kt t < qt t)
    (h2 : takes 0#1 0#1 (flag (grid0.coords t)) = 1#1) (h3 : takes 0#1 1#1 (flag (grid0.coords t)) ≠ 1#1) (h4 : takes 1#1 0#1 (flag (grid0.coords t)) ≠ 1#1) (h5 : takes 1#1 1#1 (flag (grid0.coords t)) ≠ 1#1)
    (h : Holds m c t (kt t) 0 (ini c t s)) : Holds m c t (kt t + 1) 0 (next m c t s) where
  top j a := (congrFun (plain_stats_max c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5 j) a).trans (newMax_top _ _ _ a _ (plain_row m c t hk j a) (h.top j a))
  mass j a := (congrFun (plain_stats_sum c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5 j) a).trans
    (newSum_mass _ _ _ _ a _ (plain_row m c t hk j a) (h.top j a) (h.mass j a))
  acc j a d := (congrFun (congrFun (congrArg (halfAcc · j) (plain_stats_acc c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5)) a) d).trans (h.acc j a d)

theorem masked_stats_holds (t : Fin cfgA.N) (s : St c) (hq : qt t < 8) (hk : kt t < 8)
    (h2 : takes 0#1 0#1 (flag (grid0.coords t)) ≠ 1#1) (h3 : takes 0#1 1#1 (flag (grid0.coords t)) = 1#1) (h4 : takes 1#1 0#1 (flag (grid0.coords t)) ≠ 1#1) (h5 : takes 1#1 1#1 (flag (grid0.coords t)) ≠ 1#1)
    (h : Holds m c t (kt t) 0 (ini c t s)) : Holds m c t (kt t + 1) 0 (next m c t s) where
  top j a := (congrFun (masked_stats_max c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5 hq hk (qword_eq t) (kword_eq t) j) a).trans
    (newMax_top _ _ _ a _ (masked_row m c t j a) (h.top j a))
  mass j a := (congrFun (masked_stats_sum c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5 hq hk (qword_eq t) (kword_eq t) j) a).trans
    (newSum_mass _ _ _ _ a _ (masked_row m c t j a) (h.top j a) (h.mass j a))
  acc j a d := (congrFun (congrFun (congrArg (halfAcc · j) (masked_stats_acc c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5 hq hk (qword_eq t) (kword_eq t))) a) d).trans (h.acc j a d)

/-- A point of the second pass: one more tile of values. -/
theorem plain_pass_holds (t : Fin cfgA.N) (s : St c) (hk : kt t < qt t) (hs : second t = true)
    (h2 : takes 0#1 0#1 (flag (grid0.coords t)) ≠ 1#1) (h3 : takes 0#1 1#1 (flag (grid0.coords t)) ≠ 1#1) (h4 : takes 1#1 0#1 (flag (grid0.coords t)) = 1#1) (h5 : takes 1#1 1#1 (flag (grid0.coords t)) ≠ 1#1)
    (h : Holds m c t (qt t + 1) (kt t) (ini c t s)) : Holds m c t (qt t + 1) (kt t + 1) (next m c t s) where
  top j a := (congrFun (congrArg (half · j) (plain_pass_max c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5)) a).trans (h.top j a)
  mass j a := (congrFun (congrArg (half · j) (plain_pass_sum c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5)) a).trans (h.mass j a)
  acc j a d := (congrFun (congrFun (plain_pass_acc c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5 j) a) d).trans
    (newAcc_weighted _ _ _ _ _ _ _ _ _ _ _ a d (plain_row m c t hk j a) (h.top j a) (h.mass j a) (fun b => blk4 m c t hs b d) (h.acc j a d))

theorem masked_pass_holds (t : Fin cfgA.N) (s : St c) (hq : qt t < 8) (hk : kt t < 8) (hs : second t = true)
    (h2 : takes 0#1 0#1 (flag (grid0.coords t)) ≠ 1#1) (h3 : takes 0#1 1#1 (flag (grid0.coords t)) ≠ 1#1) (h4 : takes 1#1 0#1 (flag (grid0.coords t)) ≠ 1#1) (h5 : takes 1#1 1#1 (flag (grid0.coords t)) = 1#1)
    (h : Holds m c t (qt t + 1) (kt t) (ini c t s)) : Holds m c t (qt t + 1) (kt t + 1) (next m c t s) where
  top j a := (congrFun (congrArg (half · j) (masked_pass_max c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5 hq hk (qword_eq t) (kword_eq t))) a).trans (h.top j a)
  mass j a := (congrFun (congrArg (half · j) (masked_pass_sum c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5 hq hk (qword_eq t) (kword_eq t))) a).trans (h.mass j a)
  acc j a d := (congrFun (congrFun (masked_pass_acc c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) s.1 s.2.1 s.2.2 blank h2 h3 h4 h5 hq hk (qword_eq t) (kword_eq t) j) a) d).trans
    (newAcc_weighted _ _ _ _ _ _ _ _ _ _ _ a d (masked_row m c t j a) (h.top j a) (h.mass j a) (fun b => blk4 m c t hs b d) (h.acc j a d))

/-- What a point's body finds, past the branch that clears: the tiles before its own. -/
theorem holds_start (t : Fin cfgA.N) (s : St c)
    (h : ¬ (flag (grid0.coords t) = 10#32 ∨ flag (grid0.coords t) = 2#32) → Holds m c (before t) (done1 (before t)) (done2 (before t)) s) :
    Holds m c t (if second t then qt t + 1 else kt t) (if second t then kt t else 0) (ini c t s) := by
  have hf := step_facts t
  by_cases h0 : flag (grid0.coords t) = 10#32 ∨ flag (grid0.coords t) = 2#32
  · have hs : second t = false := by
      unfold second
      rcases h0 with h0 | h0 <;> rw [h0] <;> decide
    have h1 : run.sl.v13 (grid0.coords t) T3 = 1#1 := by
      rw [v13_eq]
      rcases h0 with h0 | h0 <;> rw [h0] <;> decide
    rw [hs, hf.2.2.2.2.1 h0]
    exact holds_clear m c t h1 s
  · have h1 : ¬ run.sl.v13 (grid0.coords t) T3 = 1#1 := by
      rw [v13_eq]
      rcases (point_facts t).1 with ⟨e, -⟩ | ⟨e | e | e | e | e, -⟩
      · rw [e]; decide
      · exact absurd (.inl e) h0
      · exact absurd (.inr e) h0
      all_goals rw [e]; decide
    rw [ini_keep c t h1]
    obtain ⟨-, hb, hp, hq, e1, e2⟩ := hf.2.2.2.2.2.1 h0
    have hh := h h0
    rw [e1, e2] at hh
    have hr : ∀ j a, rowAt m c (before t) j a = rowAt m c t j a := fun j a => by
      unfold rowAt
      rw [hb, hp, hq]
    exact ⟨fun j a => (hh.top j a).trans (by rw [hr]), fun j a => (hh.mass j a).trans (by rw [hr]),
      fun j a d => (hh.acc j a d).trans (by rw [hr, hb, hp, hq])⟩

theorem holds_next (t : Fin cfgA.N) (s : St c)
    (h : ¬ (flag (grid0.coords t) = 10#32 ∨ flag (grid0.coords t) = 2#32) → Holds m c (before t) (done1 (before t)) (done2 (before t)) s) :
    Holds m c t (done1 t) (done2 t) (next m c t s) := by
  have h' := holds_start m c t s h
  have hf := step_facts t
  have hq := hf.1
  have hk : kt t < 8 := Nat.lt_of_le_of_lt hf.2.1 hq
  have hs0 : (flag (grid0.coords t) = 10#32 ∨ flag (grid0.coords t) = 2#32 ∨ flag (grid0.coords t) = 8#32 ∨ flag (grid0.coords t) = 0#32)
      → second t = false := fun e => by
    unfold second
    rcases e with e | e | e | e <;> rw [e] <;> decide
  have hs1 : (flag (grid0.coords t) = 13#32 ∨ flag (grid0.coords t) = 1#32) → second t = true := fun e => by
    unfold second
    rcases e with e | e <;> rw [e] <;> decide
  unfold done1 done2
  rcases (point_facts t).1 with ⟨e, -⟩ | ⟨e | e | e | e | e, -⟩
  · have hs := hs1 (.inl e)
    rw [hs] at h' ⊢
    exact masked_pass_holds m c t s hq hk hs (by rw [e]; decide) (by rw [e]; decide) (by rw [e]; decide) (by rw [e]; decide) h'
  · rw [hs0 (.inl e)] at h' ⊢
    exact masked_stats_holds m c t s hq hk (by rw [e]; decide) (by rw [e]; decide) (by rw [e]; decide) (by rw [e]; decide) h'
  · rw [hs0 (.inr (.inl e))] at h' ⊢
    exact plain_stats_holds m c t s (hf.2.2.1 (.inl e)) (by rw [e]; decide) (by rw [e]; decide) (by rw [e]; decide) (by rw [e]; decide) h'
  · rw [hs0 (.inr (.inr (.inl e)))] at h' ⊢
    exact masked_stats_holds m c t s hq hk (by rw [e]; decide) (by rw [e]; decide) (by rw [e]; decide) (by rw [e]; decide) h'
  · have hs := hs1 (.inr e)
    rw [hs] at h' ⊢
    exact plain_pass_holds m c t s (hf.2.2.1 (.inr (.inr e))) hs (by rw [e]; decide) (by rw [e]; decide) (by rw [e]; decide) (by rw [e]; decide) h'
  · rw [hs0 (.inr (.inr (.inr e)))] at h' ⊢
    exact plain_stats_holds m c t s (hf.2.2.1 (.inr (.inl e))) (by rw [e]; decide) (by rw [e]; decide) (by rw [e]; decide) (by rw [e]; decide) h'

/-- The scratch buffers along the grid. -/
theorem holds_traj : ∀ (n : ℕ) (hn : n < cfgA.N), Holds m c ⟨n, hn⟩ (done1 ⟨n, hn⟩) (done2 ⟨n, hn⟩) (traj m c n)
  | 0, hn => holds_next m c ⟨0, hn⟩ _ fun h => absurd (.inl ((point_facts ⟨0, hn⟩).2 rfl)) h
  | n + 1, hn => by
    have e : traj m c (n + 1) = next m c ⟨n + 1, hn⟩ (traj m c n) := dif_pos hn
    rw [e]
    exact holds_next m c ⟨n + 1, hn⟩ _ fun _ => holds_traj n (Nat.lt_of_succ_lt hn)

/-! ## The result -/

/-- The block a storing point leaves. -/
theorem stored_block (t : Fin cfgA.N) (h : flag (grid0.coords t) = 13#32) (a : Fin 512) (d : Fin 128) :
    outAt m c t (traj m c (t.val - 1)) (ix2 a d)
      = weighted (scores (argQ m c) (argAQ m c) (argK m c) (argAK m c) (bt t) (pt t) (d.val / 64) (512 * qt t + a.val)) (argV m c)
          (bt t) (pt t) (qt t + 1) (qt t + 1) d.val := by
  have hn : next m c t (traj m c (t.val - 1)) = traj m c t.val := next_traj m c t _ fun _ => rfl
  have hh := holds_traj m c t.val t.isLt
  rw [← hn] at hh
  have hs : second t = true := by unfold second; rw [h]; decide
  have e2 : done2 t = qt t + 1 := by unfold done2; rw [hs, (step_facts t).2.2.2.1 h]; rfl
  have h6 : k0_cond6 (run.sl.r_2 (grid0.coords t) T3) = 1#1 := by
    show k0_cond6 (flag (grid0.coords t)) = 1#1
    rw [h]; decide
  refine (stored c (grid0.coords t) (ms0 t) (hs0 t) (ms1 t) (hs1 t) (ms2 t) (hs2 t) (ms3 t) (hs3 t) (ms4 t) (hs4 t) (ms5 t) (hs5 t)
    T0 T1 T2 T3 (iblk m c 0 t) (iblk m c 1 t) (iblk m c 2 t) (iblk m c 3 t) (iblk m c 4 t) (traj m c (t.val - 1)).1 (traj m c (t.val - 1)).2.1
    (traj m c (t.val - 1)).2.2 blank h6 a d).trans ?_
  have key : ∀ j : Fin 2, halfAcc (next m c t (traj m c (t.val - 1))).2.2 j a d = weighted (rowAt m c t j a) (argV m c) (bt t) (pt t) (qt t + 1) (qt t + 1) d.val :=
    fun j => (hh.acc j a d).trans (by rw [show done2 ⟨t.val, t.isLt⟩ = qt t + 1 from e2])
  have hd := d.isLt
  split
  · refine (key 0).trans ?_
    rw [show d.val / 64 = 0 by omega]
    rfl
  · refine (key 1).trans ?_
    rw [show d.val / 64 = 1 by omega]
    rfl

/-- Every block of the result is stored by some point. -/
theorem covers5 : (cfgA.win 5).Covers := by
  have hs : ∀ a : Fin 2, 0 < (![512, 128] : Fin 2 → Nat) a := by decide
  refine Pipeline.Window.covers_of_index_surj _ rfl hs fun β => ?_
  have h0 : (β (0 : Fin 2)).val < 32 := lt_of_lt_of_eq (β (0 : Fin 2)).isLt (by decide : (16384 + 512 - 1) / 512 = 32)
  have h1 : (β (1 : Fin 2)).val < 2 := lt_of_lt_of_eq (β (1 : Fin 2)).isLt (by decide : (256 + 128 - 1) / 128 = 2)
  obtain ⟨t, -, hb, hp, hq⟩ := last_point ⟨(β (0 : Fin 2)).val / 8, by omega⟩ ⟨(β (1 : Fin 2)).val, h1⟩
    ⟨(β (0 : Fin 2)).val % 8, Nat.mod_lt _ (by decide)⟩
  refine ⟨t, ?_⟩
  show ∀ a : Fin 2, (cfgA.win 5).index t a = β a
  intro a
  rw [(step_facts t).2.2.2.2.2.2.2.2.2.2.2 a, hb, hp, hq]
  fin_cases a
  · show (β (0 : Fin 2)).val / 8 * 8 + (β (0 : Fin 2)).val % 8 = (β (0 : Fin 2)).val
    omega
  · rfl

/-- The result array after the run. -/
theorem final : (dats m 0 c).arrAt 5 cfgA.N
    = fun i : S16384x256.Idx => result (argQ m c) (argAQ m c) (argK m c) (argAK m c) (argV m c) (i 0).val (i 1).val := by
  refine (dats m 0 c).arrAt_eq_of_covers 5 _ covers5 fun t hf y => ?_
  rw [after5]
  revert y
  intro (y : S512x128.Idx)
  idx_vars y
  have h13 : flag (grid0.coords t) = 13#32 := by
    rcases (point_facts t).1 with ⟨e, -⟩ | ⟨-, -, e⟩
    · exact e
    · exact absurd hf (by rw [e]; decide)
  have hq := (step_facts t).1
  have hb := bt_lt t
  have hp := pt_lt t
  let r : Fin 16384 := ⟨(bt t * 8 + qt t) * 512 + y0.val, by omega⟩
  let l : Fin 256 := ⟨pt t * 128 + y1.val, by omega⟩
  have hi : ((cfgA.win 5).blk t).view.emb (ix2 y0 y1) = ix2 r l := by
    funext a
    apply Fin.ext
    refine (Pipeline.Window.rect_emb_val (cfgA.win 5) t (ix2 y0 y1) a).trans ?_
    rw [(step_facts t).2.2.2.2.2.2.2.2.2.2.2 a]
    fin_cases a <;> rfl
  refine (stored_block m c t h13 y0 y1).trans (Eq.trans ?_ (congrArg (fun i : S16384x256.Idx =>
    result (argQ m c) (argAQ m c) (argK m c) (argAK m c) (argV m c) (i 0).val (i 1).val) hi.symm))
  show _ = result (argQ m c) (argAQ m c) (argK m c) (argAK m c) (argV m c) ((bt t * 8 + qt t) * 512 + y0.val) (pt t * 128 + y1.val)
  unfold result
  rw [show ((bt t * 8 + qt t) * 512 + y0.val) / 4096 = bt t by omega, show (pt t * 128 + y1.val) / 128 = pt t by omega,
    show (pt t * 128 + y1.val) % 128 = y1.val by omega,
    show ((bt t * 8 + qt t) * 512 + y0.val) % 4096 = 512 * qt t + y0.val by omega,
    show (512 * qt t + y0.val) / 512 = qt t by omega]

end Cert.AttentionIdeal.Attn
end
-- ==== Proof.AttentionIdeal.Reference.lean ====
/- What the attention reference computes, read at one index: the scores of a query row, masked; their softmax; its
   product with the values. -/
module

public import proofs.«01_k».proof.Proof.Gen.AttentionReferenceIdeal.Run
public import Idealize.ShloMosaic.PureOps.Ideal.Laws
public import Idealize.ShloMosaic.Lib.Pointwise
public import Idealize.ShloMosaic.Lib.WordCmp

@[expose] public section

set_option maxRecDepth 16384

noncomputable section

namespace Cert.AttentionReferenceIdeal.Attn

open Idealize.ShloMosaic Idealize.ShloMosaic.TcCoe Idealize.SL.Sem
open Idealize.ShloMosaic.WordCmp
open Cert.AttentionReferenceIdeal Cert.AttentionReferenceIdeal.Gen

abbrev In := FVec Ideal S16384x256 .bf16
abbrev Sc := FVec Ideal S4x4x4096x4096 .f32

/-- An argument cut in heads, and the bias lanes of one. -/
def heads (x : In) : FVec Ideal S4x4096x4x64 .f32 := shapeCast _ (extf .f32 x bitsLt_bf16_f32) shapeCasts_S16384x256_S4x4096x4x64
def bias (x : In) : FVec Ideal S4x4096x4x6 .f32 :=
  shapeCast _ (extractStridedSlice S4x4096x2x12 ![0, 0, 0, 0] (shapeCast _ (extf .f32 x bitsLt_bf16_f32) shapeCasts_S16384x256_S4x4096x2x128)
    slices_S4x4096x2x128_S4x4096x2x12_0_0_0_0) shapeCasts_S4x4096x2x12_S4x4096x4x6

/-- Key position ≤ query position. -/
def causalMask : IVec S4x4x4096x4096 1 :=
  broadcastInDim S4x4x4096x4096 ![2, 3] bcast_S4096x4096_S4x4x4096x4096_2_3 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- The masked scores. -/
def scoreTerm (q aq k ak : In) : Sc :=
  select causalMask
    (addf (Host.dotGeneral dot_S4x4096x4x64_S4x4096x4x64_S4x4x4096x4096_3_3_1_1_02_02 none (heads q) (heads k))
      (Host.dotGeneral dot_S4x4096x4x6_S4x4096x4x6_S4x4x4096x4096_3_3_1_1_02_02 none (bias aq) (bias ak)))
    (broadcastInDim S4x4x4096x4096 ![] bcast_S_S4x4x4096x4096 (id (constant S_ .f32 0xFF800000#32)))

/-- Each row's maximum, the exponentials against it, the rows' softmax. -/
def maxTerm (s : Sc) : FVec Ideal S4x4x4096 .f32 :=
  maximumf (broadcastInDim S4x4x4096 ![] bcast_S_S4x4x4096 (constant S_ .f32 0xFF800000#32))
    (Host.reduce FloatOps.maximumf s (constant S_ .f32 0xFF800000#32) reducesTo_S4x4x4096x4096_S4x4x4096_d3 h_S_)
def expTerm (s : Sc) : Sc :=
  Host.exp (subf s (broadcastInDim S4x4x4096x4096 ![0, 1, 2, 3] bcast_S4x4x4096x1_S4x4x4096x4096_0_1_2_3
    (broadcastInDim S4x4x4096x1 ![0, 1, 2] bcast_S4x4x4096_S4x4x4096x1_0_1_2 (maxTerm s))))
def softTerm (s : Sc) : Sc :=
  Host.divf (expTerm s) (broadcastInDim S4x4x4096x4096 ![0, 1, 2, 3] bcast_S4x4x4096x1_S4x4x4096x4096_0_1_2_3
    (broadcastInDim S4x4x4096x1 ![0, 1, 2] bcast_S4x4x4096_S4x4x4096x1_0_1_2
      (Host.reduceAdd (expTerm s) (constant S_ .f32 0x00000000#32) reducesTo_S4x4x4096x4096_S4x4x4096_d3 h_S_)))
def outTerm (s : Sc) (v : In) : In :=
  truncf .bf16 (shapeCast _ (transpose S4x4096x4x64 [0, 3, 1, 2] (Host.dotGeneral dot_S4x4096x4x64_S4x4x4096x4096_S4x4x64x4096_1_3_3_2_02_01 none
    (heads v) (extf .f32 (truncf .bf16 (softTerm s) bitsLt_bf16_f32) bitsLt_bf16_f32)) transposes_S4x4x64x4096_S4x4096x4x64_0_3_1_2)
    shapeCasts_S4x4096x4x64_S16384x256) bitsLt_bf16_f32

/-- The reference's result, by these parts. -/
theorem res_eq (m : (ℓ : Loc nD τ sig) → Buf (Elt Ideal) ℓ) (c : Dev nD) :
    Value.res_out0 (F := Ideal) m c
      = outTerm (scoreTerm (m ((c.tc : Thread nD τ).loc main_arg0)) (m ((c.tc : Thread nD τ).loc main_arg1))
          (m ((c.tc : Thread nD τ).loc main_arg2)) (m ((c.tc : Thread nD τ).loc main_arg3))) (m ((c.tc : Thread nD τ).loc main_arg4)) := by
  unfold Value.res_out0 Value.res_main_v40
  rfl

theorem heads_at (x : In) (b : Fin 4) (n : Fin 4096) (h : Fin 4) (d : Fin 64) (r : Fin 16384) (l : Fin 256)
    (hr : r.val = 4096 * b.val + n.val) (hl : l.val = 64 * h.val + d.val) : heads x (ix4 b n h d) = x (ix2 r l) := by
  pointwise [heads]
  exact congrArg x (congrArg₂ ix2 (Fin.ext (by show b.val * 4096 + n.val = r.val; omega)) (Fin.ext (by show h.val * 64 + d.val = l.val; omega)))

theorem bias_at (x : In) (b : Fin 4) (n : Fin 4096) (h : Fin 4) (d : Fin 6) (r : Fin 16384) (l : Fin 256)
    (hr : r.val = 4096 * b.val + n.val) (hl : l.val = 128 * (h.val / 2) + (6 * (h.val % 2) + d.val)) : bias x (ix4 b n h d) = x (ix2 r l) := by
  pointwise [bias]
  exact congrArg x (congrArg₂ ix2 (Fin.ext (by show b.val * 4096 + n.val = r.val; omega))
    (Fin.ext (by show h.val / 2 * 128 + (h.val % 2 * 6 + d.val) = l.val; omega)))

theorem mask_at (b h : Fin 4) (n k : Fin 4096) : causalMask (ix4 b h n k) = if k.val ≤ n.val then 1#1 else 0#1 := by
  pointwise [causalMask]
  refine (cmpi_sle_ofNat (by omega) (by omega)).trans ?_
  by_cases h' : k.val ≤ n.val <;> simp [h']

theorem bot_bits : Ideal.ofBits .f32 0xFF800000#32 = ⊥ := by simp [Ideal.ofBits, Ideal.ieee]

/-- The maximum over the last of four axes, from −∞. -/
theorem reduce_max_at {p q r n : ℕ} (x : FVec Ideal ⟨4, ![p, q, r, n]⟩ .f32)
    (h' : (⟨4, ![p, q, r, n]⟩ : Shape).ReducesTo [3] ⟨3, ![p, q, r]⟩) (h : (⟨4, ![p, q, r, n]⟩ : Shape).Reduces [3] ⟨3, ![p, q, r]⟩)
    (hu : 0 < (⟨0, ![]⟩ : Shape).numel) (i : Fin p) (j : Fin q) (k : Fin r) :
    Host.reduce FloatOps.maximumf x (constant (⟨0, ![]⟩ : Shape) .f32 0xFF800000#32) h' hu (ix3 i j k)
      = Finset.univ.fold max ⊥ fun l => x (ix4 i j k l) := by
  rw [Host.reduce_eq_fold_single FloatOps.maximumf x _ h' h hu]
  have hf : (x ∘ h.lift (ix3 i j k)) = fun l : Fin n => x (ix4 i j k l) := funext fun l => congrArg x (by
    funext c
    apply Fin.ext
    fin_cases c <;> rfl)
  refine Eq.trans ?_ (congrArg (fun z => Finset.fold max z (fun l : Fin n => x (ix4 i j k l)) Finset.univ) bot_bits)
  exact congrArg (fun f => Finset.fold max (Ideal.ofBits .f32 0xFF800000#32) f (Finset.univ : Finset (Fin n))) hf

theorem reduces_keys : S4x4x4096x4096.Reduces [3] S4x4x4096 := by decide

theorem maxf_bot (z : FVec Ideal S4x4x4096 .f32) (i : S4x4x4096.Idx) (y : EReal) (h : z i = y) :
    maximumf (broadcastInDim S4x4x4096 ![] bcast_S_S4x4x4096 (constant (F := Ideal) S_ .f32 0xFF800000#32)) z i = y := by
  show max (Ideal.ofBits .f32 0xFF800000#32) (z i) = y
  rw [h, bot_bits]
  exact max_eq_right bot_le

theorem max_at (s : Sc) (b h : Fin 4) (n : Fin 4096) :
    maxTerm s (ix3 b h n) = Finset.univ.fold max ⊥ fun k => s (ix4 b h n k) := by
  unfold maxTerm
  exact maxf_bot _ _ _ (reduce_max_at s reducesTo_S4x4x4096x4096_S4x4x4096_d3 reduces_keys h_S_ b h n)

theorem exp_at (s : Sc) (b h : Fin 4) (n k : Fin 4096) :
    expTerm s (ix4 b h n k) = Ideal.exp (s (ix4 b h n k) - maxTerm s (ix3 b h n)) := by
  pointwise [expTerm]

theorem soft_at (s : Sc) (b h : Fin 4) (n k : Fin 4096) :
    softTerm s (ix4 b h n k) = Ideal.div (expTerm s (ix4 b h n k)) (∑ k, expTerm s (ix4 b h n k)) := by
  pointwise [softTerm]

theorem out_at (s : Sc) (v : In) (r : Fin 16384) (l : Fin 256) (b : Fin 4) (n : Fin 4096) (h : Fin 4) (d : Fin 64)
    (hr : r.val = 4096 * b.val + n.val) (hl : l.val = 64 * h.val + d.val) :
    outTerm s v (ix2 r l) = ∑ k, heads v (ix4 b k h d) * softTerm s (ix4 b h n k) := by
  pointwise [outTerm]
  rw [show (⟨r.val / 4096, by omega⟩ : Fin 4) = b from Fin.ext (by show r.val / 4096 = b.val; omega),
    show (⟨l.val / 64, by omega⟩ : Fin 4) = h from Fin.ext (by show l.val / 64 = h.val; omega),
    show (⟨l.val % 64, by omega⟩ : Fin 64) = d from Fin.ext (by show l.val % 64 = d.val; omega),
    show (⟨r.val % 4096, by omega⟩ : Fin 4096) = n from Fin.ext (by show r.val % 4096 = n.val; omega)]

theorem score_at (q aq k ak : In) (b h : Fin 4) (n n' : Fin 4096) :
    scoreTerm q aq k ak (ix4 b h n n')
      = if n'.val ≤ n.val then (∑ d, heads q (ix4 b n h d) * heads k (ix4 b n' h d)) + ∑ d, bias aq (ix4 b n h d) * bias ak (ix4 b n' h d)
        else ⊥ := by
  pointwise [scoreTerm]
  rw [mask_at]
  by_cases h' : n'.val ≤ n.val
  · rw [if_pos h', if_pos h']
    rfl
  · rw [if_neg h', if_neg h']
    exact bot_bits

end Cert.AttentionReferenceIdeal.Attn
end
-- ==== Proof.AttentionIdeal.Agree.lean ====
/- The attention call's result is the reference's, wherever queries, keys and the bias operands are finite. -/
module

public import proofs.«01_k».proof.Proof.AttentionIdeal.Value
public import proofs.«01_k».proof.Proof.AttentionIdeal.Reference
public import proofs.«01_k».proof.Proof.Gen.Pre_finite_scores

@[expose] public section

set_option maxRecDepth 16384

noncomputable section

namespace Cert.AttentionIdeal.Attn

open Idealize.ShloMosaic Idealize.ShloMosaic.TcCoe Idealize.SL.Sem
open Cert.AttentionIdeal Cert.AttentionIdeal.Gen
open Cert.AttentionReferenceIdeal.Attn (heads bias scoreTerm softTerm outTerm)
open Finset

/-! ## Finite scores -/

/-- A real number. -/
def Finite (x : EReal) : Prop := ∃ r : ℝ, x = r

theorem finite_zero : Finite 0 := ⟨0, rfl⟩
theorem Finite.add {x y : EReal} : Finite x → Finite y → Finite (x + y)
  | ⟨r, hr⟩, ⟨s, hs⟩ => ⟨r + s, by rw [hr, hs, EReal.coe_add]⟩
theorem Finite.mul {x y : EReal} : Finite x → Finite y → Finite (x * y)
  | ⟨r, hr⟩, ⟨s, hs⟩ => ⟨r * s, by rw [hr, hs, EReal.coe_mul]⟩
theorem finite_sum {ι : Type} (s : Finset ι) (f : ι → EReal) (h : ∀ i, Finite (f i)) : Finite (∑ i ∈ s, f i) := by
  classical
  induction s using Finset.induction_on with
  | empty => exact finite_zero
  | insert a s ha ih => rw [sum_insert ha]; exact (h a).add ih

theorem finite_of_abs {x : EReal} (h : max x (-x) < ⊤) : Finite x := by
  induction x with
  | bot => simp at h
  | top => simp at h
  | coe r => exact ⟨r, rfl⟩

theorem finite_entry {x : Arr} (h : ∀ i, Finite (x i)) (r l : ℕ) : Finite (entry x r l) := by
  unfold entry
  split
  exacts [h _, finite_zero]

theorem finite_part (w j : ℕ) {x y : Fin 128 → EReal} (hx : ∀ l, Finite (x l)) (hy : ∀ l, Finite (y l)) : Finite (part w j x y) :=
  finite_sum _ _ fun l => by
    split
    exacts [(hx l).mul (hy l), finite_zero]

theorem finite_pairScore {q aq k ak : Arr} (hq : ∀ i, Finite (q i)) (haq : ∀ i, Finite (aq i)) (hk : ∀ i, Finite (k i))
    (hak : ∀ i, Finite (ak i)) (p j r r' : ℕ) : Finite (pairScore q aq k ak p j r r') :=
  (finite_part _ _ (fun _ => finite_entry hq _ _) fun _ => finite_entry hk _ _).add
    (finite_part _ _ (fun _ => finite_entry haq _ _) fun _ => finite_entry hak _ _)

/-- A row has a finite score, its own position's, and none that is `⊤`: its sum of exponentials is not zero. -/
theorem mass_row {q aq k ak : Arr} (hq : ∀ i, Finite (q i)) (haq : ∀ i, Finite (aq i)) (hk : ∀ i, Finite (k i))
    (hak : ∀ i, Finite (ak i)) (b p j n : ℕ) : mass (scores q aq k ak b p j n) (n / 512 + 1) ≠ 0 := by
  obtain ⟨r, hr⟩ := finite_pairScore hq haq hk hak p j (4096 * b + n) (4096 * b + n)
  refine mass_ne_zero _ (fun i c => ?_) (Nat.lt_succ_self (n / 512)) (b := ⟨n % 512, Nat.mod_lt _ (by decide)⟩) (r := r) ?_
  · unfold scores
    split
    · obtain ⟨s, hs⟩ := finite_pairScore hq haq hk hak p j (4096 * b + n) (4096 * b + (512 * i + c.val))
      rw [hs]
      exact EReal.coe_ne_top s
    · exact bot_ne_top
  · unfold scores
    have e : 512 * (n / 512) + n % 512 = n := Nat.div_add_mod n 512
    rw [if_pos (by show 512 * (n / 512) + n % 512 ≤ n; omega)]
    show pairScore q aq k ak p j (4096 * b + n) (4096 * b + (512 * (n / 512) + n % 512)) = r
    rw [e, hr]

/-! ## The two score formulas -/

/-- The lanes of one head, counted from the head's first. -/
theorem part_eq (w j : ℕ) (h : w * (j + 1) ≤ 128) (x y : Fin 128 → EReal) :
    part w j x y = ∑ d : Fin w, x ⟨w * j + d.val, by rw [Nat.mul_succ] at h; omega⟩ * y ⟨w * j + d.val, by rw [Nat.mul_succ] at h; omega⟩ := by
  rw [Nat.mul_succ] at h
  unfold part
  refine (Fintype.sum_of_injective (fun d : Fin w => (⟨w * j + d.val, by omega⟩ : Fin 128)) (fun d d' e => ?_)
    (fun d : Fin w => x ⟨w * j + d.val, by omega⟩ * y ⟨w * j + d.val, by omega⟩)
    (fun l : Fin 128 => if w * j ≤ l.val ∧ l.val < w * (j + 1) then x l * y l else (0 : EReal))
    (fun l hl => if_neg fun hw => hl ?_) (fun d => (if_pos ?_).symm)).symm
  · have e' : w * j + d.val = w * j + d'.val := congrArg Fin.val e
    exact Fin.ext (by omega)
  · rw [Nat.mul_succ] at hw
    exact ⟨⟨l.val - w * j, by omega⟩, Fin.ext (by show w * j + (l.val - w * j) = l.val; omega)⟩
  · rw [Nat.mul_succ]
    exact ⟨Nat.le_add_right _ _, Nat.add_lt_add_left d.isLt _⟩

/-- The score of two positions, head by head. -/
theorem pairScore_eq (q aq k ak : Arr) (b h : Fin 4) (n n' : Fin 4096) (p j : ℕ) (hp : h.val / 2 = p) (hj : h.val % 2 = j) :
    pairScore q aq k ak p j (4096 * b.val + n.val) (4096 * b.val + n'.val)
      = (∑ d, heads q (ix4 b n h d) * heads k (ix4 b n' h d)) + ∑ d, bias aq (ix4 b n h d) * bias ak (ix4 b n' h d) := by
  subst hp hj
  have hh := h.isLt
  have hb := b.isLt
  unfold pairScore
  rw [part_eq 64 _ (by omega), part_eq 6 _ (by omega)]
  refine congrArg₂ (· + ·) (sum_congr rfl fun d _ => ?_) (sum_congr rfl fun d _ => ?_)
  · have e (x : Arr) (n : Fin 4096) : entry x (4096 * b.val + n.val) (128 * (h.val / 2) + (64 * (h.val % 2) + d.val)) = heads x (ix4 b n h d) :=
      (entry_eq x ⟨4096 * b.val + n.val, by omega⟩ ⟨128 * (h.val / 2) + (64 * (h.val % 2) + d.val), by omega⟩).trans
        (Cert.AttentionReferenceIdeal.Attn.heads_at x b n h d _ _ rfl (by show 128 * (h.val / 2) + (64 * (h.val % 2) + d.val) = 64 * h.val + d.val; omega)).symm
    exact congrArg₂ (· * ·) (e q n) (e k n')
  · have e (x : Arr) (n : Fin 4096) : entry x (4096 * b.val + n.val) (128 * (h.val / 2) + (6 * (h.val % 2) + d.val)) = bias x (ix4 b n h d) :=
      (entry_eq x ⟨4096 * b.val + n.val, by omega⟩ ⟨128 * (h.val / 2) + (6 * (h.val % 2) + d.val), by omega⟩).trans
        (Cert.AttentionReferenceIdeal.Attn.bias_at x b n h d _ _ rfl rfl).symm
    exact congrArg₂ (· * ·) (e aq n) (e ak n')

/-- The kernel's result is the reference's. -/
theorem result_eq {q aq k ak : Arr} (hq : ∀ i, Finite (q i)) (haq : ∀ i, Finite (aq i)) (hk : ∀ i, Finite (k i))
    (hak : ∀ i, Finite (ak i)) (v : Arr) (r : Fin 16384) (l : Fin 256) :
    result q aq k ak v r.val l.val = outTerm (scoreTerm q aq k ak) v (ix2 r l) := by
  have hr := r.isLt
  have hl := l.isLt
  let b : Fin 4 := ⟨r.val / 4096, by omega⟩
  let n : Fin 4096 := ⟨r.val % 4096, by omega⟩
  let h : Fin 4 := ⟨l.val / 64, by omega⟩
  let d : Fin 64 := ⟨l.val % 64, by omega⟩
  rw [Cert.AttentionReferenceIdeal.Attn.out_at _ v r l b n h d (by show r.val = 4096 * (r.val / 4096) + r.val % 4096; omega)
    (by show l.val = 64 * (l.val / 64) + l.val % 64; omega)]
  unfold result weighted
  refine (row_eq (scores q aq k ak (r.val / 4096) (l.val / 128) (l.val % 128 / 64) (r.val % 4096)) (by omega : r.val % 4096 / 512 + 1 ≤ 8)
    (fun n' => scoreTerm q aq k ak (ix4 b h n n')) (fun n' => heads v (ix4 b n' h d)) _ (fun n' c i e => ?_) (fun n' c i e => ?_)
    (fun i hi c => ?_) (mass_row hq haq hk hak _ _ _ _)).trans ?_
  · have hs := Cert.AttentionReferenceIdeal.Attn.score_at q aq k ak b h n n'
    refine hs.trans ?_
    unfold scores
    rw [← e]
    refine if_congr Iff.rfl ?_ rfl
    exact (pairScore_eq q aq k ak b h n n' (l.val / 128) (l.val % 128 / 64) (by show l.val / 64 / 2 = l.val / 128; omega)
      (by show l.val / 64 % 2 = l.val % 128 / 64; omega)).symm
  · rw [← e]
    have hb := b.isLt
    have hn' := n'.isLt
    exact (Cert.AttentionReferenceIdeal.Attn.heads_at v b n' h d ⟨4096 * b.val + n'.val, by omega⟩ ⟨128 * (l.val / 128) + l.val % 128, by omega⟩ rfl
      (by show 128 * (l.val / 128) + l.val % 128 = 64 * (l.val / 64) + l.val % 64; omega)).trans
      (entry_eq v ⟨4096 * b.val + n'.val, by omega⟩ ⟨128 * (l.val / 128) + l.val % 128, by omega⟩).symm
  · exact if_neg (by omega)
  · refine sum_congr rfl fun n' _ => congrArg (heads v (ix4 b n' h d) * ·) ?_
    rw [Cert.AttentionReferenceIdeal.Attn.soft_at]
    simp only [Cert.AttentionReferenceIdeal.Attn.exp_at, Cert.AttentionReferenceIdeal.Attn.max_at]

/-! ## The run -/

variable (m : (ℓ : Loc nD τ sig) → Buf (Elt Ideal) ℓ)

/-- The run: the result is the reference's term over the arguments, which end unchanged. -/
theorem run_value (ρ : Dev nD → PrngReg) (hfin : ∀ c i, Finite (argQ m c i) ∧ Finite (argAQ m c i) ∧ Finite (argK m c i) ∧ Finite (argAK m c i)) :
    θ_run defs (onTc (τ := τ) (main (F := Ideal))) ⟨m, fun _ => 0, ρ⟩ fun r => ∀ c : Dev nD,
      r.2.mem ((c.tc : Thread nD τ).loc main_v0)
          = outTerm (scoreTerm (m ((c.tc : Thread nD τ).loc main_arg0)) (m ((c.tc : Thread nD τ).loc main_arg1))
              (m ((c.tc : Thread nD τ).loc main_arg2)) (m ((c.tc : Thread nD τ).loc main_arg3))) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c => ⟨(((h.1.1 c).1 5).trans (final m c)).trans (funext fun i => by
      obtain ⟨y0, y1, rfl⟩ : ∃ (y0 : Fin 16384) (y1 : Fin 256), i = ix2 y0 y1 := ⟨i 0, i 1, by funext a; fin_cases a <;> rfl⟩
      exact result_eq (fun i => (hfin c i).1) (fun i => (hfin c i).2.1) (fun i => (hfin c i).2.2.1) (fun i => (hfin c i).2.2.2) _ y0 y1), h.2 c⟩)
    (θ_run_and (run_main m ρ) (unchanged m ρ))

/-- What the precondition says at one index. -/
theorem finite_of_pre (q aq k ak v : FVec Ideal Cert.Pre_finite_scores.S16384x256 .bf16)
    (h : Cert.Pre_finite_scores.fn (F := Ideal) q aq k ak v = fun _ => 1#1) (i : Cert.Pre_finite_scores.S16384x256.Idx) :
    Finite (q i) ∧ Finite (aq i) ∧ Finite (k i) ∧ Finite (ak i) := by
  have hi := congrFun h i
  have one (x y : BitVec 1) : Scalar.andi x y = 1#1 → x = 1#1 ∧ y = 1#1 := by
    revert x y
    decide
  have inf : Ideal.ofBits .f32 0x7F800000#32 = ⊤ := by simp [Ideal.ofBits, Ideal.ieee]
  have lt (x : EReal) (h : Ideal.cmp .olt (max x (-x)) (Ideal.ofBits .f32 0x7F800000#32) = 1#1) : Finite x := by
    rw [inf] at h
    refine finite_of_abs ?_
    by_contra hn
    simp [Ideal.cmp, hn] at h
  obtain ⟨h123, h4⟩ := one _ _ hi
  obtain ⟨h12, h3⟩ := one _ _ h123
  obtain ⟨h1, h2⟩ := one _ _ h12
  exact ⟨lt _ h1, lt _ h2, lt _ h3, lt _ h4⟩

end Cert.AttentionIdeal.Attn
end
-- ==== Proof.DenseIdeal.Tables.lean ====
/- The two prefetched tables of the dense feed-forward call, read back from the constants the host line writes: the first
   is zero everywhere (one expert), the second names token tile `t` at tile `t`. From these closed forms: the block index
   of every window at every grid point, and the pipeline's side condition (each such block inside its array). -/
module

public import proofs.«01_k».proof.Proof.Gen.DenseIdeal.Frame.Runs
public import Idealize.ShloMosaic.Lib.Claim

@[expose] public section

set_option maxRecDepth 16384

noncomputable section

namespace Cert.DenseIdeal.Ffn

open Idealize.ShloMosaic Idealize.ShloMosaic.TcCoe Idealize.SL.Sem
open Cert.DenseIdeal Cert.DenseIdeal.Gen

variable {F : FTy → Type} [FloatOps F]
variable (m : (ℓ : Loc nD τ sig) → Buf (Elt F) ℓ)

/-- The second table's constant: token tile `t`. -/
theorem lit0_val : ∀ t : Fin 64, (lit0 t).toNat = t.val := by decide +kernel

/-- The first table holds zero. -/
theorem tbl0 : tbl m 0 = constantI S64 32 0#32 := by
  show V m (0 : Dev nD) main_c = _
  entry_read
  rfl

/-- The second table holds its constant. -/
theorem tbl1 : tbl m 1 = fun i => lit0 (S64.rowMajor i) := by
  show V m (0 : Dev nD) main_c_0 = _
  entry_read
  rfl

/-- The table element an index map reads at a grid point is the point's own. -/
theorem read_pos (i : grid0.Coords) (h : S1.numel = 1) (hb : ∀ a, (k0_off1 i) a + S1.size a ≤ S64.size a) :
    (S64.rowMajor ((Rect.unit (s := S64) (k0_off1 i) S1.size hb).emb (Shape.Idx.first (h.symm ▸ Nat.one_pos)))).val
      = (i 0).val := by
  have hi : (i 0).val < 64 := (i 0).isLt
  rw [Shape.rowMajor_val_one]
  show (BitVec.ofNat 32 (i 0).val).toNat + 1 * 0 = _
  rw [BitVec.toNat_ofNat]
  omega

/-- The token tiles' window is at block row `t`. -/
theorem map0 (i : grid0.Coords) : cc0_transform_0 k0_off1_inb numel1_S1 (tbl m) i = ![(i 0).val, 0] := by
  unfold cc0_transform_0
  simp only [Pipeline.Prefetch.Contents.at, tbl1]
  funext a
  fin_cases a
  · exact (lit0_val _).trans (read_pos i numel1_S1 (k0_off1_inb i))
  · rfl

/-- The gate weights' window stays at the one expert, -/
theorem map1 (i : grid0.Coords) : cc0_transform_1 k0_off1_inb numel1_S1 (tbl m) i = ![0, 0, 0] := by
  unfold cc0_transform_1
  simp only [Pipeline.Prefetch.Contents.at, tbl0]
  funext a
  fin_cases a <;> rfl

/-- as do the up weights' -/
theorem map2 (i : grid0.Coords) : cc0_transform_2 k0_off1_inb numel1_S1 (tbl m) i = ![0, 0, 0] :=
  map1 m i

/-- and the down weights'. -/
theorem map3 (i : grid0.Coords) : cc0_transform_3 k0_off1_inb numel1_S1 (tbl m) i = ![0, 0, 0] :=
  map1 m i

/-- The one matrix of even height `p` is a block of the stack of one, made of whole words. -/
theorem weights (p q : Nat) (hp : 2 ∣ p) :
    ∃ h : (∀ a : Fin 3, ((![0, 0, 0] : Fin 3 → Nat) a + 1) * (![1, p, q] : Fin 3 → Nat) a ≤ (![1, p, q] : Fin 3 → Nat) a),
      EltTy.bits .bf16 = 32
        ∨ (Rect.block (s := ⟨3, ![1, p, q]⟩) ![1, p, q] ![0, 0, 0] h).WholeWords (EltTy.packing .bf16) := by
  refine ⟨fun a => ?_, .inr (Rect.PackedRows.wholeWords (.inr ⟨Nat.le_succ 2, rfl, .inl ⟨⟨0, Nat.zero_mul _⟩, hp⟩⟩))⟩
  fin_cases a
  · exact le_refl _
  · show (0 + 1) * p ≤ p
    omega
  · show (0 + 1) * q ≤ q
    omega

/-- Every block the tables name is inside its array, its transfer made of whole words. -/
theorem ok : Ok m := by
  refine ⟨fun i => ?_, fun i => ?_, fun i => ?_, fun i => ?_⟩
  · simp only [map0]
    have hi : (i 0).val < 64 := (i 0).isLt
    refine ⟨fun a => ?_, .inr (Rect.PackedRows.wholeWords (.inr ⟨by decide, rfl, .inl ⟨?_, ?_⟩⟩))⟩
    · fin_cases a
      · show ((i 0).val + 1) * 256 ≤ 16384
        omega
      · show (0 + 1) * 1024 ≤ 1024
        omega
    · show 2 ∣ (i 0).val * 256
      omega
    · exact ⟨128, rfl⟩
  · simp only [map1]; exact weights 1024 2816 ⟨512, rfl⟩
  · simp only [map2]; exact weights 1024 2816 ⟨512, rfl⟩
  · simp only [map3]; exact weights 2816 1024 ⟨1408, rfl⟩

end Cert.DenseIdeal.Ffn

end
-- ==== Proof.DenseIdeal.Value.lean ====
/- What the dense feed-forward call leaves in its result: row tile `t` holds the one expert applied to token tile `t`, so
   the whole array is the reference's. The body's value at an element is the one of the experts' call. -/
module

public import proofs.«01_k».proof.Proof.Gen.DenseIdeal.Frame
public import proofs.«01_k».proof.Proof.Gen.DenseReferenceIdeal.Run
public import proofs.«01_k».proof.Proof.DenseIdeal.Tables
public import proofs.«01_k».proof.Proof.KernelIdeal.Experts
public import Idealize.ShloMosaic.Lib.Pipeline.ValueKit
public import Idealize.ShloMosaic.Lib.Pipeline.Covers

@[expose] public section

set_option maxRecDepth 16384

noncomputable section

namespace Cert.DenseIdeal.Ffn

open Idealize.ShloMosaic Idealize.ShloMosaic.TcCoe Idealize.SL.Sem
open Cert.DenseIdeal Cert.DenseIdeal.Gen
open Cert.KernelIdeal.Ffn (swiglu body_at)

/-- The reference's composed term. -/
abbrev REF (X : FVec Ideal Cert.DenseReferenceIdeal.S16384x1024 .bf16) (G U : FVec Ideal Cert.DenseReferenceIdeal.S1024x2816 .f32)
    (D : FVec Ideal Cert.DenseReferenceIdeal.S2816x1024 .f32) : FVec Ideal Cert.DenseReferenceIdeal.S16384x1024 .f32 :=
  open Cert.DenseReferenceIdeal Cert.DenseReferenceIdeal.Gen in
  Host.dotGeneral (φ₁ := .f32) (φ₂ := .f32) dot_S16384x2816_S2816x1024_S16384x1024_1_0_0_1_n_n none (mulf (mulf (Host.dotGeneral (φ₁ := .f32) (φ₂ := .f32) dot_S16384x1024_S1024x2816_S16384x2816_1_0_0_1_n_n none (extf .f32 X Cert.DenseReferenceIdeal.Gen.bitsLt_bf16_f32) G) (Host.divf (broadcastInDim Cert.DenseReferenceIdeal.S16384x2816 ![] bcast_S_S16384x2816 (constant S_ .f32 0x3F800000#32)) (addf (broadcastInDim Cert.DenseReferenceIdeal.S16384x2816 ![] bcast_S_S16384x2816 (constant S_ .f32 0x3F800000#32)) (Host.exp (Host.negf (Host.dotGeneral (φ₁ := .f32) (φ₂ := .f32) dot_S16384x1024_S1024x2816_S16384x2816_1_0_0_1_n_n none (extf .f32 X Cert.DenseReferenceIdeal.Gen.bitsLt_bf16_f32) G)))))) (Host.dotGeneral (φ₁ := .f32) (φ₂ := .f32) dot_S16384x1024_S1024x2816_S16384x2816_1_0_0_1_n_n none (extf .f32 X Cert.DenseReferenceIdeal.Gen.bitsLt_bf16_f32) U)) D

/-- The reference at token `i`, column `o`. -/
theorem ref_at (X : FVec Ideal Cert.DenseReferenceIdeal.S16384x1024 .bf16) (G U : FVec Ideal Cert.DenseReferenceIdeal.S1024x2816 .f32)
    (D : FVec Ideal Cert.DenseReferenceIdeal.S2816x1024 .f32) (i : Fin 16384) (o : Fin 1024) :
    REF X G U D (ix2 i o)
      = swiglu (fun k => X (ix2 i k)) (fun k f => G (ix2 k f)) (fun k f => U (ix2 k f)) (fun f => D (ix2 f o)) := by
  pointwise [REF, swiglu]

variable (m : (ℓ : Loc nD τ sig) → Buf (Elt Ideal) ℓ) (c : Dev nD)

/-- The grid's coordinate at a point is the point itself. -/
theorem coords (t : Fin grid0.N) : (grid0.coords t 0).val = t.val := by
  have ht : t.val < 64 := t.isLt
  rw [Pipeline.Grid.coords_val t 0 (S := 1) (B := 64) (by decide) rfl]
  omega

theorem idx0 (t : Fin grid0.N) : ((cfgM m (ok m)).win 0).index t = ![t.val, 0] := by
  have := map0 m (grid0.coords t)
  rw [coords] at this
  exact this

theorem idx4 (t : Fin grid0.N) : ((cfgM m (ok m)).win 4).index t = ![t.val, 0] := by
  have h : ((cfgM m (ok m)).win 4).index t = ![(grid0.coords t 0).val, 0] := by
    funext a
    have hi : (grid0.coords t 0).val < 64 := (grid0.coords t 0).isLt
    fin_cases a
    · show (BitVec.ofNat 32 (grid0.coords t 0).val).toNat = _
      rw [BitVec.toNat_ofNat]
      show _ = (grid0.coords t 0).val
      omega
    · rfl
  rw [h, coords]

/-- The weights the call is given are, in exact arithmetic, the weights under a leading axis of one. -/
theorem V1 (k : Fin 1024) (f : Fin 2816) : V m c main_v1 (ix3 0 k f) = m ⟨c, main_arg1⟩ (ix2 k f) := by
  entry_read
  generalize m ⟨c, main_arg1⟩ = x
  revert x
  show ∀ x : FVec Ideal S1024x2816 .f32, _
  intro x
  pointwise []

theorem V3 (k : Fin 1024) (f : Fin 2816) : V m c main_v3 (ix3 0 k f) = m ⟨c, main_arg2⟩ (ix2 k f) := by
  entry_read
  generalize m ⟨c, main_arg2⟩ = x
  revert x
  show ∀ x : FVec Ideal S1024x2816 .f32, _
  intro x
  pointwise []

theorem V5 (f : Fin 2816) (o : Fin 1024) : V m c main_v5 (ix3 0 f o) = m ⟨c, main_arg3⟩ (ix2 f o) := by
  entry_read
  generalize m ⟨c, main_arg3⟩ = x
  revert x
  show ∀ x : FVec Ideal S2816x1024 .f32, _
  intro x
  pointwise []

/-- The block of the tokens at a point: token tile `t`. -/
theorem blk0 (t : Fin grid0.N) (r : Fin 256) (k : Fin 1024) (q : Fin 16384) (hq : q.val = t.val * 256 + r.val) :
    iblk m (ok m) c 0 t (ix2 r k) = m ⟨c, main_arg0⟩ (ix2 q k) := by
  refine (congrArg (V m c main_arg0) (?_ : _ = ix2 q k)).trans (congrFun (V_main_arg0 m c) _)
  funext a
  apply Fin.ext
  have h := Pipeline.Window.rect_emb_val ((cfgM m (ok m)).win 0) t (ix2 r k) a
  rw [idx0] at h
  refine Eq.trans h ?_
  fin_cases a
  · exact hq.symm
  · exact Nat.zero_add _

/-- A point's block of weights is the whole array of weights. -/
theorem blk1 (t : Fin grid0.N) (k : Fin 1024) (f : Fin 2816) : iblk m (ok m) c 1 t (ix3 0 k f) = m ⟨c, main_arg1⟩ (ix2 k f) := by
  refine (congrArg (V m c main_v1) (?_ : _ = ix3 0 k f)).trans (V1 m c k f)
  funext a
  apply Fin.ext
  have h := Pipeline.Window.rect_emb_val ((cfgM m (ok m)).win 1) t (ix3 0 k f) a
  rw [show ((cfgM m (ok m)).win 1).index t = ![0, 0, 0] from map1 m (grid0.coords t)] at h
  refine Eq.trans h ?_
  fin_cases a <;> exact Nat.zero_add _

theorem blk2 (t : Fin grid0.N) (k : Fin 1024) (f : Fin 2816) : iblk m (ok m) c 2 t (ix3 0 k f) = m ⟨c, main_arg2⟩ (ix2 k f) := by
  refine (congrArg (V m c main_v3) (?_ : _ = ix3 0 k f)).trans (V3 m c k f)
  funext a
  apply Fin.ext
  have h := Pipeline.Window.rect_emb_val ((cfgM m (ok m)).win 2) t (ix3 0 k f) a
  rw [show ((cfgM m (ok m)).win 2).index t = ![0, 0, 0] from map2 m (grid0.coords t)] at h
  refine Eq.trans h ?_
  fin_cases a <;> exact Nat.zero_add _

theorem blk3 (t : Fin grid0.N) (f : Fin 2816) (o : Fin 1024) : iblk m (ok m) c 3 t (ix3 0 f o) = m ⟨c, main_arg3⟩ (ix2 f o) := by
  refine (congrArg (V m c main_v5) (?_ : _ = ix3 0 f o)).trans (V5 m c f o)
  funext a
  apply Fin.ext
  have h := Pipeline.Window.rect_emb_val ((cfgM m (ok m)).win 3) t (ix3 0 f o) a
  rw [show ((cfgM m (ok m)).win 3).index t = ![0, 0, 0] from map3 m (grid0.coords t)] at h
  refine Eq.trans h ?_
  fin_cases a <;> exact Nat.zero_add _

/-- Every row tile of the result is some point's block. -/
theorem covers4 : ((cfgM m (ok m)).win 4).Covers := by
  have hs : ∀ a : Fin 2, 0 < (![256, 1024] : Fin 2 → Nat) a := by decide
  refine Pipeline.Window.covers_of_index_surj _ rfl hs fun β => ?_
  have h0 : (β (0 : Fin 2)).val < 64 := lt_of_lt_of_eq (β (0 : Fin 2)).isLt (by decide : (16384 + 256 - 1) / 256 = 64)
  have h1 : (β (1 : Fin 2)).val < 1 := lt_of_lt_of_eq (β (1 : Fin 2)).isLt (by decide : (1024 + 1024 - 1) / 1024 = 1)
  refine ⟨⟨(β (0 : Fin 2)).val, h0⟩, ?_⟩
  rw [idx4]
  show ∀ a : Fin 2, (![(β (0 : Fin 2)).val, 0] : Fin 2 → Nat) a = β a
  intro a
  fin_cases a
  · rfl
  · exact (Nat.lt_one_iff.mp h1).symm

/-- What the body leaves in the result's block: its one store over the input blocks. -/
theorem outs (t : Fin grid0.N) : outsAt0 m (ok m) c t
    = k0_pay1 (F := Ideal) (iblk m (ok m) c 0 t) (iblk m (ok m) c 1 t) (iblk m (ok m) c 2 t) (iblk m (ok m) c 3 t) := by
  unfold outsAt0
  generalize iblk m (ok m) c 0 t = x0, iblk m (ok m) c 1 t = x1, iblk m (ok m) c 2 t = x2, iblk m (ok m) c 3 t = x3
  revert x0 x1 x2 x3
  show ∀ (x0 : Vec Ideal S256x1024 .bf16) (x1 x2 : Vec Ideal S1x1024x2816 .bf16) (x3 : Vec Ideal S1x2816x1024 .bf16), _
  intro x0 x1 x2 x3
  frame_out

/-- The result array after the run. -/
theorem final : (dats m (ok m) 0 c).arrAt 4 (cfgM m (ok m)).N
    = REF (m ⟨c, main_arg0⟩) (m ⟨c, main_arg1⟩) (m ⟨c, main_arg2⟩) (m ⟨c, main_arg3⟩) := by
  refine (dats m (ok m) 0 c).arrAt_eq_of_covers 4 _ (covers4 m) fun t hf y => ?_
  rw [after0_4, outs]
  revert y
  intro (y : S256x1024.Idx)
  idx_vars y
  have ht : t.val < 64 := t.isLt
  let i : Fin 16384 := ⟨t.val * 256 + y0.val, by omega⟩
  have hi : (((cfgM m (ok m)).win 4).blk t).view.emb (ix2 y0 y1) = ix2 i y1 := by
    funext a
    apply Fin.ext
    have h := Pipeline.Window.rect_emb_val ((cfgM m (ok m)).win 4) t (ix2 y0 y1) a
    rw [idx4] at h
    refine Eq.trans h ?_
    fin_cases a
    · rfl
    · exact Nat.zero_add _
  refine Eq.trans ?_ (congrArg (REF _ _ _ _) hi.symm)
  rw [ref_at]
  refine (body_at _ _ _ _ y0 y1).trans ?_
  congr 1
  · funext k; exact blk0 m c t y0 k i rfl
  · funext k f; exact blk1 m c t k f
  · funext k f; exact blk2 m c t k f
  · funext f; exact blk3 m c t f y1

/-- The run: the result is the reference's term over the arguments, which end unchanged. -/
theorem run (ρ : Dev nD → PrngReg) : θ_run defs (onTc (τ := τ) (main (F := Ideal))) ⟨m, fun _ => 0, ρ⟩ fun r => ∀ c : Dev nD,
    r.2.mem ((c.tc : Thread nD τ).loc main_v6)
        = REF (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final m c), h.2 c⟩)
    (θ_run_and (run_main m ρ (ok m)) (unchanged m ρ (ok m)))

end Cert.DenseIdeal.Ffn

end
-- ==== Proof.EmbedIdeal.Row.lean ====
/- What the embedding call's body computes for one token row: the experts' outputs mixed by the token's gates onto the
   residual row, the per-layer embedding added through its sigmoid gate, and the root-mean-square norm of the outcome. The
   body reads a gate by masking the gates' lanes and adding them up. -/
module

public import proofs.«01_k».proof.Proof.Gen.EmbedIdeal.Frame
public import Idealize.ShloMosaic.PureOps.Ideal.Laws
public import Idealize.ShloMosaic.Lib.Pointwise
public import Idealize.ShloMosaic.Lib.WordCmp
public import Idealize.ShloMosaic.Lib.Pipeline.ValueKit

@[expose] public section

set_option maxRecDepth 16384

noncomputable section

namespace Cert.EmbedIdeal.Ple

open Idealize.ShloMosaic Idealize.ShloMosaic.TcCoe Idealize.SL.Sem
open Idealize.ShloMosaic.WordCmp
open Cert.EmbedIdeal Cert.EmbedIdeal.Gen

/-- The lane of expert `e` among the 128 the gates are laid out in. -/
abbrev lane (e : Fin 8) : Fin 128 := ⟨e.val, by omega⟩

/-- A row after the experts: the residual and the gated sum of the experts' outputs. -/
def mixed (h : Fin 1024 → EReal) (g : Fin 128 → EReal) (y : Fin 8 → Fin 1024 → EReal) (o : Fin 1024) : EReal :=
  h o + ∑ e : Fin 8, g (lane e) * y e o

/-- A row with the embedding's projection added, times the sigmoid of the row's own projection. -/
def ended (x : Fin 1024 → EReal) (W : Fin 1024 → Fin 1024 → EReal) (p : Fin 256 → EReal) (P : Fin 256 → Fin 1024 → EReal)
    (o : Fin 1024) : EReal :=
  x o + Ideal.div 1 (1 + Ideal.exp (-(∑ k, x k * W k o))) * ∑ j, p j * P j o

/-- A row's root-mean-square norm, scaled. -/
def normed (x : Fin 1024 → EReal) (g : Fin 1024 → EReal) (o : Fin 1024) : EReal :=
  x o * Ideal.rsqrt (Ideal.div (∑ k, x k * x k) (Ideal.ofBits .f32 1149239296#32) + Ideal.ofBits .f32 897988541#32) * g o

/-- A sum over the lanes of all that lane `e` keeps is the entry at lane `e`. -/
theorem lane_sum (f : Fin 128 → EReal) (e : Fin 8) (w : BitVec 32) (hw : w = BitVec.ofNat 32 e.val) :
    ∑ x : Fin 128, Scalar.select (IntOp.cmpi .eq (BitVec.ofNat 32 x.val) w) (f x) 0 = f (lane e) := by
  subst hw
  have key : ∀ x : Fin 128, Scalar.select (IntOp.cmpi .eq (BitVec.ofNat 32 x.val) (BitVec.ofNat 32 e.val)) (f x) 0
      = if x.val = e.val then f x else 0 := by
    intro x
    have hx := x.isLt
    have he := e.isLt
    have : (BitVec.ofNat 32 x.val = BitVec.ofNat 32 e.val) ↔ x.val = e.val := by
      constructor
      · intro h
        have := congrArg BitVec.toNat h
        rw [BitVec.toNat_ofNat, BitVec.toNat_ofNat] at this
        omega
      · intro h; rw [h]
    by_cases h : x.val = e.val
    · rw [if_pos h, h]
      simp [Scalar.select, IntOp.cmpi]
    · rw [if_neg h]
      have h' : ¬ BitVec.ofNat 32 x.val = BitVec.ofNat 32 e.val := fun q => h (this.1 q)
      simp [Scalar.select, IntOp.cmpi, (beq_eq_false_iff_ne.2 h' : (BitVec.ofNat 32 x.val == BitVec.ofNat 32 e.val) = false)]
  rw [Finset.sum_congr rfl fun x _ => key x, Finset.sum_eq_single (lane e)]
  · exact if_pos rfl
  · intro b _ hb
    exact if_neg fun h => hb (Fin.ext h)
  · intro h
    exact absurd (Finset.mem_univ _) h

variable (x0 : Vec Ideal S256x1024 .f32) (x1 : Vec Ideal S8x256x1024 .f32) (x2 : Vec Ideal S256x128 .f32)
  (x3 : Vec Ideal S256x256 .f32) (x4 : Vec Ideal S1024x1024 .bf16) (x5 : Vec Ideal S256x1024 .bf16) (x6 : Vec Ideal S1x1024 .f32)

/-- Row `r` of the blocks after the experts. -/
abbrev mixRow (r : Fin 256) : Fin 1024 → EReal :=
  mixed (fun o => x0 (ix2 r o)) (fun l => x2 (ix2 r l)) (fun e o => x1 (ix3 e r o))

abbrev endRow (r : Fin 256) : Fin 1024 → EReal :=
  ended (mixRow x0 x1 x2 r) (fun k o => x4 (ix2 k o)) (fun j => x3 (ix2 r j)) (fun j o => x5 (ix2 j o))

theorem iota_at (r : Fin 256) (x : Fin 128) :
    k0_pay7 (F := Ideal) x0 x1 x2 x3 x4 x5 x6 (ix2 r x) = BitVec.ofNat 32 x.val := by
  pointwise [k0_pay7]

theorem pay2_at (v0 : Vec Ideal S256x1024 .f32) (v1 : Vec Ideal S256x128 .f32) (y0 y1 y2 : Vec Ideal S1x256x1024 .f32)
    (r : Fin 256) (o : Fin 1024) :
    k0_pay2 (F := Ideal) v0 v1 y0 y1 y2 (ix2 r o) = v0 (ix2 r o) + v1 (ix2 r (lane 0)) * y0 (ix3 0 r o)
      + v1 (ix2 r (lane 1)) * y1 (ix3 0 r o) + v1 (ix2 r (lane 2)) * y2 (ix3 0 r o) := by
  pointwise [k0_pay2]
  rw [lane_sum (fun x => v1 (ix2 r x)) 0 0#32 rfl, lane_sum (fun x => v1 (ix2 r x)) 1 1#32 rfl,
    lane_sum (fun x => v1 (ix2 r x)) 2 2#32 rfl]

theorem pay3_at (v1 : Vec Ideal S256x128 .f32) (v2 : IVec S256x128 32) (v : FVec Ideal S256x1024 .f32) (y3 y4 y5 : Vec Ideal S1x256x1024 .f32)
    (h2 : ∀ (r : Fin 256) (x : Fin 128), v2 (ix2 r x) = BitVec.ofNat 32 x.val) (r : Fin 256) (o : Fin 1024) :
    k0_pay3 (F := Ideal) v1 v2 v 3#32 y3 y4 y5 (ix2 r o) = v (ix2 r o) + v1 (ix2 r (lane 3)) * y3 (ix3 0 r o)
      + v1 (ix2 r (lane 4)) * y4 (ix3 0 r o) + v1 (ix2 r (lane 5)) * y5 (ix3 0 r o) := by
  pointwise [k0_pay3]
  simp only [h2]
  rw [lane_sum (fun x => v1 (ix2 r x)) 3 3#32 rfl, lane_sum (fun x => v1 (ix2 r x)) 4 4#32 rfl,
    lane_sum (fun x => v1 (ix2 r x)) 5 5#32 rfl]

theorem pay4_at (v1 : Vec Ideal S256x128 .f32) (v2 : IVec S256x128 32)
    (h2 : ∀ (r : Fin 256) (x : Fin 128), v2 (ix2 r x) = BitVec.ofNat 32 x.val) (r : Fin 256) :
    k0_pay4 (F := Ideal) v1 v2 (ix2 r 0) = v1 (ix2 r (lane 6)) := by
  pointwise [k0_pay4]
  simp only [h2]
  exact lane_sum (fun x => v1 (ix2 r x)) 6 6#32 rfl

theorem pay5_at (v1 : Vec Ideal S256x128 .f32) (v2 : IVec S256x128 32) (v : FVec Ideal S256x1024 .f32) (w : FVec Ideal S256x1 .f32)
    (y6 y7 : Vec Ideal S1x256x1024 .f32) (W : Vec Ideal S1024x1024 .bf16) (p : Vec Ideal S256x256 .f32) (P : Vec Ideal S256x1024 .bf16)
    (h2 : ∀ (r : Fin 256) (x : Fin 128), v2 (ix2 r x) = BitVec.ofNat 32 x.val) (r : Fin 256) (o : Fin 1024) :
    k0_pay5 (F := Ideal) v1 v2 v w y6 y7 W p P (ix2 r o)
      = ended (fun k => v (ix2 r k) + w (ix2 r 0) * y6 (ix3 0 r k) + v1 (ix2 r (lane 7)) * y7 (ix3 0 r k)) (fun k o => W (ix2 k o))
          (fun j => p (ix2 r j)) (fun j o => P (ix2 j o)) o := by
  pointwise [k0_pay5, ended]
  simp only [h2]
  rw [lane_sum (fun x => v1 (ix2 r x)) 7 7#32 rfl, zero_sub]

theorem pay1_at (v : FVec Ideal S256x1024 .f32) (s : FVec Ideal S256x1024 .f32) (g : Vec Ideal S1x1024 .f32)
    (hs : ∀ (r : Fin 256) (k : Fin 1024), s (ix2 r k) = v (ix2 r k) * v (ix2 r k)) (r : Fin 256) (o : Fin 1024) :
    k0_pay1 (F := Ideal) v s g (ix2 r o) = normed (fun k => v (ix2 r k)) (fun k => g (ix2 0 k)) o := by
  pointwise [k0_pay1, normed]
  simp only [hs]

theorem pay8_at (r : Fin 256) (o : Fin 1024) :
    k0_pay8 (F := Ideal) x0 x1 x2 x3 x4 x5 x6 (ix2 r o) = x0 (ix2 r o) + x2 (ix2 r (lane 0)) * x1 (ix3 0 r o)
      + x2 (ix2 r (lane 1)) * x1 (ix3 1 r o) + x2 (ix2 r (lane 2)) * x1 (ix3 2 r o) + x2 (ix2 r (lane 3)) * x1 (ix3 3 r o)
      + x2 (ix2 r (lane 4)) * x1 (ix3 4 r o) + x2 (ix2 r (lane 5)) * x1 (ix3 5 r o) := by
  unfold k0_pay8
  rw [pay3_at _ _ _ _ _ _ (iota_at x0 x1 x2 x3 x4 x5 x6), pay2_at]
  pointwise []
  rfl

theorem pay9_at (r : Fin 256) : k0_pay9 (F := Ideal) x0 x1 x2 x3 x4 x5 x6 (ix2 r 0) = x2 (ix2 r (lane 6)) := by
  unfold k0_pay9
  rw [pay4_at _ _ (iota_at x0 x1 x2 x3 x4 x5 x6)]
  pointwise []
  rfl

/-- The row the body mixes, one expert after the other, is the residual plus the gated sum. -/
theorem end_at (r : Fin 256) (o : Fin 1024) :
    k0_pay5 (F := Ideal) x2 (k0_pay7 x0 x1 x2 x3 x4 x5 x6) (k0_pay8 x0 x1 x2 x3 x4 x5 x6) (k0_pay9 x0 x1 x2 x3 x4 x5 x6)
      (View.ld x1 r0_8) (View.ld x1 r0_9) x4 x3 x5 (ix2 r o) = endRow x0 x1 x2 x3 x4 x5 r o := by
  rw [pay5_at _ _ _ _ _ _ _ _ _ (iota_at x0 x1 x2 x3 x4 x5 x6), pay9_at]
  refine congrArg (fun x => ended x _ _ _ o) (funext fun k => ?_)
  rw [pay8_at]
  have h6 : View.ld x1 r0_8 (ix3 0 r k) = x1 (ix3 6 r k) := by pointwise []
  have h7 : View.ld x1 r0_9 (ix3 0 r k) = x1 (ix3 7 r k) := by pointwise []
  rw [h6, h7]
  simp only [mixRow, mixed, Fin.sum_univ_eight, add_assoc]

/-- What the body stores to the first result's block, at row `r`, column `o`. -/
theorem out7_at (r : Fin 256) (o : Fin 1024) :
    out0_7 (F := Ideal) x0 x1 x2 x3 x4 x5 x6 (ix2 r o) = endRow x0 x1 x2 x3 x4 x5 r o := by
  frame_out
  exact end_at x0 x1 x2 x3 x4 x5 x6 r o

/-- What the body stores to the second result's block. -/
theorem out8_at (r : Fin 256) (o : Fin 1024) :
    out0_8 (F := Ideal) x0 x1 x2 x3 x4 x5 x6 (ix2 r o) = normed (endRow x0 x1 x2 x3 x4 x5 r) (fun k => x6 (ix2 0 k)) o := by
  frame_out
  refine (pay1_at _ _ x6 (fun r k => rfl) r o).trans ?_
  exact congrArg (fun x => normed x _ o) (funext fun k => end_at x0 x1 x2 x3 x4 x5 x6 r k)

end Cert.EmbedIdeal.Ple

end
-- ==== Proof.EmbedIdeal.Reference.lean ====
/- What the embedding call's reference computes, read at one token and column: the gated sum of the experts' outputs, the
   gated embedding, the norm. -/
module

public import proofs.«01_k».proof.Proof.Gen.EmbedReferenceIdeal.Run
public import proofs.«01_k».proof.Proof.EmbedIdeal.Row

@[expose] public section

set_option maxRecDepth 16384

noncomputable section

namespace Cert.EmbedReferenceIdeal.Ple

open Idealize.ShloMosaic Idealize.ShloMosaic.TcCoe Idealize.SL.Sem
open Cert.EmbedReferenceIdeal Cert.EmbedReferenceIdeal.Gen
open Cert.EmbedIdeal.Ple (lane mixed ended normed)

abbrev Rows := FVec Ideal S16384x1024 .f32

/-- One expert's outputs, each row times the token's gate of the expert. -/
def gated (d : FVec Ideal S16384x128 .f32) (y : FVec Ideal S8x16384x1024 .f32) (e : ℕ)
    (hd : S16384x128.Slices ![0, e] S16384x1) (hy : S8x16384x1024.Slices ![e, 0, 0] S1x16384x1024) : Rows :=
  mulf (broadcastInDim S16384x1024 ![0, 1] bcast_S16384x1_S16384x1024_0_1 (extractStridedSlice S16384x1 ![0, e] d hd))
    (shapeCast _ (extractStridedSlice S1x16384x1024 ![e, 0, 0] y hy) shapeCasts_S1x16384x1024_S16384x1024)

/-- The residual plus the gated sum. -/
def mixTerm (h : Rows) (y : FVec Ideal S8x16384x1024 .f32) (d : FVec Ideal S16384x128 .f32) : Rows :=
  addf h (addf (addf (addf (addf (addf (addf (addf (addf (broadcastInDim S16384x1024 ![] bcast_S_S16384x1024 (constant S_ .f32 0x00000000#32))
    (gated d y 0 slices_S16384x128_S16384x1_0_0 slices_S8x16384x1024_S1x16384x1024_0_0_0))
    (gated d y 1 slices_S16384x128_S16384x1_0_1 slices_S8x16384x1024_S1x16384x1024_1_0_0))
    (gated d y 2 slices_S16384x128_S16384x1_0_2 slices_S8x16384x1024_S1x16384x1024_2_0_0))
    (gated d y 3 slices_S16384x128_S16384x1_0_3 slices_S8x16384x1024_S1x16384x1024_3_0_0))
    (gated d y 4 slices_S16384x128_S16384x1_0_4 slices_S8x16384x1024_S1x16384x1024_4_0_0))
    (gated d y 5 slices_S16384x128_S16384x1_0_5 slices_S8x16384x1024_S1x16384x1024_5_0_0))
    (gated d y 6 slices_S16384x128_S16384x1_0_6 slices_S8x16384x1024_S1x16384x1024_6_0_0))
    (gated d y 7 slices_S16384x128_S16384x1_0_7 slices_S8x16384x1024_S1x16384x1024_7_0_0))

/-- The embedding's rows, one per token. -/
def flat (p : FVec Ideal S4x4096x256 .f32) : FVec Ideal S16384x256 .f32 := shapeCast _ p shapeCasts_S4x4096x256_S16384x256

/-- The projection of the embedding, times the sigmoid gate, added. -/
def endTerm (x : Rows) (p : FVec Ideal S4x4096x256 .f32) (W : FVec Ideal S1024x1024 .f32) (P : FVec Ideal S256x1024 .f32) : Rows :=
  addf x (mulf (Host.divf (broadcastInDim S16384x1024 ![] bcast_S_S16384x1024 (constant S_ .f32 0x3F800000#32))
      (addf (broadcastInDim S16384x1024 ![] bcast_S_S16384x1024 (constant S_ .f32 0x3F800000#32))
        (Host.exp (Host.negf (Host.dotGeneral dot_S16384x1024_S1024x1024_S16384x1024_1_0_0_1_n_n none x W)))))
    (Host.dotGeneral dot_S16384x256_S256x1024_S16384x1024_1_0_0_1_n_n none (flat p) P))

/-- The root-mean-square norm of each row, scaled. -/
def normTerm (x : Rows) (g : FVec Ideal S1024 .f32) : Rows :=
  mulf (mulf x (broadcastInDim S16384x1024 ![0, 1] bcast_S16384x1_S16384x1024_0_1 (Host.rsqrt (addf
      (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The two results of the reference over its arguments. -/
def REF (h : Rows) (y : FVec Ideal S8x16384x1024 .f32) (d : FVec Ideal S16384x128 .f32) (p : FVec Ideal S4x4096x256 .f32)
    (W : FVec Ideal S1024x1024 .f32) (P : FVec Ideal S256x1024 .f32) : Rows := endTerm (mixTerm h y d) p W P

theorem res60_eq (m : (ℓ : Loc nD τ sig) → Buf (Elt Ideal) ℓ) (c : Dev nD) :
    Value.res_main_v60 (F := Ideal) m c
      = REF (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Value.res_main_v60
  rfl

theorem res73_eq (m : (ℓ : Loc nD τ sig) → Buf (Elt Ideal) ℓ) (c : Dev nD) :
    Value.res_main_v73 (F := Ideal) m c
      = normTerm (REF (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) (m ((c.tc : Thread nD τ).loc main_arg6)) := by
  unfold Value.res_main_v73
  rfl

theorem gated_at (d : FVec Ideal S16384x128 .f32) (y : FVec Ideal S8x16384x1024 .f32) (e : Fin 8)
    (hd : S16384x128.Slices ![0, e.val] S16384x1) (hy : S8x16384x1024.Slices ![e.val, 0, 0] S1x16384x1024)
    (i : Fin 16384) (o : Fin 1024) : gated d y e.val hd hy (ix2 i o) = d (ix2 i (lane e)) * y (ix3 e i o) := by
  pointwise [gated]

theorem mix_at (h : Rows) (y : FVec Ideal S8x16384x1024 .f32) (d : FVec Ideal S16384x128 .f32) (i : Fin 16384) (o : Fin 1024) :
    mixTerm h y d (ix2 i o) = mixed (fun o => h (ix2 i o)) (fun l => d (ix2 i l)) (fun e o => y (ix3 e i o)) o := by
  pointwise [mixTerm]
  simp only [mixed, Fin.sum_univ_eight]
  exact congrArg (h (ix2 i o) + ·) (congrArg₂ (· + ·) (congrArg₂ (· + ·) (congrArg₂ (· + ·) (congrArg₂ (· + ·) (congrArg₂ (· + ·) (congrArg₂ (· + ·) (congrArg₂ (· + ·) (gated_at d y 0 _ _ i o) (gated_at d y 1 _ _ i o)) (gated_at d y 2 _ _ i o)) (gated_at d y 3 _ _ i o))
    (gated_at d y 4 _ _ i o)) (gated_at d y 5 _ _ i o)) (gated_at d y 6 _ _ i o)) (gated_at d y 7 _ _ i o))

theorem end_at (x : Rows) (p : FVec Ideal S4x4096x256 .f32) (W : FVec Ideal S1024x1024 .f32) (P : FVec Ideal S256x1024 .f32)
    (i : Fin 16384) (o : Fin 1024) :
    endTerm x p W P (ix2 i o) = ended (fun k => x (ix2 i k)) (fun k o => W (ix2 k o)) (fun j => flat p (ix2 i j))
      (fun j o => P (ix2 j o)) o := by
  pointwise [endTerm, ended]

theorem norm_at (x : Rows) (g : FVec Ideal S1024 .f32) (i : Fin 16384) (o : Fin 1024) :
    normTerm x g (ix2 i o) = normed (fun k => x (ix2 i k)) (fun k => g (ix1 k)) o := by
  pointwise [normTerm, normed]

end Cert.EmbedReferenceIdeal.Ple

end
-- ==== Proof.EmbedIdeal.Value.lean ====
/- What the embedding call leaves in its two results: row tile `t` holds the rows of token tile `t`, so the whole arrays
   are the reference's. -/
module

public import proofs.«01_k».proof.Proof.Gen.EmbedIdeal.Frame
public import proofs.«01_k».proof.Proof.Gen.EmbedIdeal.Value
public import proofs.«01_k».proof.Proof.EmbedIdeal.Reference
public import Idealize.ShloMosaic.Lib.Pipeline.ValueKit
public import Idealize.ShloMosaic.Lib.Pipeline.Covers

@[expose] public section

set_option maxRecDepth 16384

noncomputable section

namespace Cert.EmbedIdeal.Ple

open Idealize.ShloMosaic Idealize.ShloMosaic.TcCoe Idealize.SL.Sem
open Cert.EmbedIdeal Cert.EmbedIdeal.Gen
open Cert.EmbedReferenceIdeal.Ple (REF normTerm flat)

variable (m : (ℓ : Loc nD τ sig) → Buf (Elt Ideal) ℓ) (c : Dev nD)

/-- The grid's coordinate at a point is the point itself. -/
theorem coords (t : Fin grid0.N) : (grid0.coords t 0).val = t.val := by
  have ht : t.val < 64 := t.isLt
  rw [Pipeline.Grid.coords_val t 0 (S := 1) (B := 64) (by decide) rfl]
  omega

/-- A row tile's block index at a point is the point. -/
theorem rowTile (t : Fin grid0.N) : cc0_transform_0 (grid0.coords t) = ![t.val, 0] := by
  have h : cc0_transform_0 (grid0.coords t) = ![(grid0.coords t 0).val, 0] := by
    funext a
    have hi : (grid0.coords t 0).val < 64 := (grid0.coords t 0).isLt
    fin_cases a
    · show (BitVec.ofNat 32 (grid0.coords t 0).val).toNat = _
      rw [BitVec.toNat_ofNat]
      show _ = (grid0.coords t 0).val
      omega
    · rfl
  rw [h, coords]

theorem stackTile (t : Fin grid0.N) : cc0_transform_1 (grid0.coords t) = ![0, t.val, 0] := by
  have h := congrFun (rowTile t) 0
  funext a
  fin_cases a
  · rfl
  · exact h
  · rfl

/-- The arguments the host prepares, in exact arithmetic. -/
theorem V_p (q : Fin 16384) (j : Fin 256) : V m c main_v0 (ix2 q j) = flat (m ⟨c, main_arg3⟩) (ix2 q j) := by
  entry_read
  rfl

theorem V_gw (k : Fin 1024) (o : Fin 1024) : V m c main_v1 (ix2 k o) = m ⟨c, main_arg4⟩ (ix2 k o) := by
  entry_read
  generalize m ⟨c, main_arg4⟩ = x
  revert x
  show ∀ x : FVec Ideal S1024x1024 .f32, _
  intro x
  pointwise []

theorem V_pw (j : Fin 256) (o : Fin 1024) : V m c main_v2 (ix2 j o) = m ⟨c, main_arg5⟩ (ix2 j o) := by
  entry_read
  generalize m ⟨c, main_arg5⟩ = x
  revert x
  show ∀ x : FVec Ideal S256x1024 .f32, _
  intro x
  pointwise []

theorem V_fg (o : Fin 1024) : V m c main_v3 (ix2 0 o) = m ⟨c, main_arg6⟩ (ix1 o) := by
  entry_read
  generalize m ⟨c, main_arg6⟩ = x
  revert x
  show ∀ x : FVec Ideal S1024 .f32, _
  intro x
  pointwise []

/-- The blocks at a point: token tile `t` of the rows, the whole of the weights. -/
theorem blk0 (t : Fin grid0.N) (r : Fin 256) (k : Fin 1024) (q : Fin 16384) (hq : q.val = t.val * 256 + r.val) :
    iblk m c 0 t (ix2 r k) = m ⟨c, main_arg0⟩ (ix2 q k) := by
  refine (congrArg (V m c main_arg0) (?_ : _ = ix2 q k)).trans (congrFun (V_main_arg0 m c) _)
  funext a
  apply Fin.ext
  have h := Pipeline.Window.rect_emb_val (cfg0.win 0) t (ix2 r k) a
  rw [show (cfg0.win 0).index t = _ from rowTile t] at h
  refine Eq.trans h ?_
  fin_cases a
  · exact hq.symm
  · exact Nat.zero_add _

theorem blk1 (t : Fin grid0.N) (e : Fin 8) (r : Fin 256) (k : Fin 1024) (q : Fin 16384) (hq : q.val = t.val * 256 + r.val) :
    iblk m c 1 t (ix3 e r k) = m ⟨c, main_arg1⟩ (ix3 e q k) := by
  refine (congrArg (V m c main_arg1) (?_ : _ = ix3 e q k)).trans (congrFun (V_main_arg1 m c) _)
  funext a
  apply Fin.ext
  have h := Pipeline.Window.rect_emb_val (cfg0.win 1) t (ix3 e r k) a
  rw [show (cfg0.win 1).index t = _ from stackTile t] at h
  refine Eq.trans h ?_
  fin_cases a
  · exact Nat.zero_add _
  · exact hq.symm
  · exact Nat.zero_add _

theorem blk2 (t : Fin grid0.N) (r : Fin 256) (l : Fin 128) (q : Fin 16384) (hq : q.val = t.val * 256 + r.val) :
    iblk m c 2 t (ix2 r l) = m ⟨c, main_arg2⟩ (ix2 q l) := by
  refine (congrArg (V m c main_arg2) (?_ : _ = ix2 q l)).trans (congrFun (V_main_arg2 m c) _)
  funext a
  apply Fin.ext
  have h := Pipeline.Window.rect_emb_val (cfg0.win 2) t (ix2 r l) a
  rw [show (cfg0.win 2).index t = _ from rowTile t] at h
  refine Eq.trans h ?_
  fin_cases a
  · exact hq.symm
  · exact Nat.zero_add _

theorem blk3 (t : Fin grid0.N) (r : Fin 256) (j : Fin 256) (q : Fin 16384) (hq : q.val = t.val * 256 + r.val) :
    iblk m c 3 t (ix2 r j) = flat (m ⟨c, main_arg3⟩) (ix2 q j) := by
  refine (congrArg (V m c main_v0) (?_ : _ = ix2 q j)).trans (V_p m c q j)
  funext a
  apply Fin.ext
  have h := Pipeline.Window.rect_emb_val (cfg0.win 3) t (ix2 r j) a
  rw [show (cfg0.win 3).index t = _ from rowTile t] at h
  refine Eq.trans h ?_
  fin_cases a
  · exact hq.symm
  · exact Nat.zero_add _

theorem blk4 (t : Fin grid0.N) (k : Fin 1024) (o : Fin 1024) : iblk m c 4 t (ix2 k o) = m ⟨c, main_arg4⟩ (ix2 k o) := by
  refine (congrArg (V m c main_v1) (?_ : _ = ix2 k o)).trans (V_gw m c k o)
  funext a
  apply Fin.ext
  refine (Pipeline.Window.rect_emb_val (cfg0.win 4) t (ix2 k o) a).trans ?_
  fin_cases a <;> exact Nat.zero_add _

theorem blk5 (t : Fin grid0.N) (j : Fin 256) (o : Fin 1024) : iblk m c 5 t (ix2 j o) = m ⟨c, main_arg5⟩ (ix2 j o) := by
  refine (congrArg (V m c main_v2) (?_ : _ = ix2 j o)).trans (V_pw m c j o)
  funext a
  apply Fin.ext
  refine (Pipeline.Window.rect_emb_val (cfg0.win 5) t (ix2 j o) a).trans ?_
  fin_cases a <;> exact Nat.zero_add _

theorem blk6 (t : Fin grid0.N) (o : Fin 1024) : iblk m c 6 t (ix2 0 o) = m ⟨c, main_arg6⟩ (ix1 o) := by
  refine (congrArg (V m c main_v3) (?_ : _ = ix2 0 o)).trans (V_fg m c o)
  funext a
  apply Fin.ext
  refine (Pipeline.Window.rect_emb_val (cfg0.win 6) t (ix2 0 o) a).trans ?_
  fin_cases a <;> exact Nat.zero_add _

/-- Every row tile of the results is some point's block. -/
theorem covers7 : (cfg0.win 7).Covers := by
  have hs : ∀ a : Fin 2, 0 < (![256, 1024] : Fin 2 → Nat) a := by decide
  refine Pipeline.Window.covers_of_index_surj _ rfl hs fun β => ?_
  have h0 : (β (0 : Fin 2)).val < 64 := lt_of_lt_of_eq (β (0 : Fin 2)).isLt (by decide : (16384 + 256 - 1) / 256 = 64)
  have h1 : (β (1 : Fin 2)).val < 1 := lt_of_lt_of_eq (β (1 : Fin 2)).isLt (by decide : (1024 + 1024 - 1) / 1024 = 1)
  refine ⟨⟨(β (0 : Fin 2)).val, h0⟩, ?_⟩
  rw [show (cfg0.win 7).index _ = _ from rowTile _]
  show ∀ a : Fin 2, (![(β (0 : Fin 2)).val, 0] : Fin 2 → Nat) a = β a
  intro a
  fin_cases a
  · rfl
  · exact (Nat.lt_one_iff.mp h1).symm

theorem covers8 : (cfg0.win 8).Covers := covers7

/-- A block's row whose inputs are the arrays' at token `q` is the reference's row of `q`. -/
theorem row_of (x0 : Vec Ideal S256x1024 .f32) (x1 : Vec Ideal S8x256x1024 .f32) (x2 : Vec Ideal S256x128 .f32)
    (x3 : Vec Ideal S256x256 .f32) (x4 : Vec Ideal S1024x1024 .bf16) (x5 : Vec Ideal S256x1024 .bf16)
    (h : Cert.EmbedReferenceIdeal.Ple.Rows) (y : FVec Ideal Cert.EmbedReferenceIdeal.S8x16384x1024 .f32)
    (d : FVec Ideal Cert.EmbedReferenceIdeal.S16384x128 .f32) (p : FVec Ideal Cert.EmbedReferenceIdeal.S4x4096x256 .f32)
    (W : FVec Ideal Cert.EmbedReferenceIdeal.S1024x1024 .f32) (P : FVec Ideal Cert.EmbedReferenceIdeal.S256x1024 .f32)
    (r : Fin 256) (q : Fin 16384) (h0 : ∀ o : Fin 1024, x0 (ix2 r o) = h (ix2 q o))
    (h1 : ∀ (e : Fin 8) (o : Fin 1024), x1 (ix3 e r o) = y (ix3 e q o)) (h2 : ∀ l : Fin 128, x2 (ix2 r l) = d (ix2 q l))
    (h3 : ∀ j : Fin 256, x3 (ix2 r j) = flat p (ix2 q j)) (h4 : ∀ k o : Fin 1024, x4 (ix2 k o) = W (ix2 k o))
    (h5 : ∀ (j : Fin 256) (o : Fin 1024), x5 (ix2 j o) = P (ix2 j o)) (o : Fin 1024) :
    endRow x0 x1 x2 x3 x4 x5 r o = REF h y d p W P (ix2 q o) := by
  unfold REF
  rw [Cert.EmbedReferenceIdeal.Ple.end_at]
  simp only [Cert.EmbedReferenceIdeal.Ple.mix_at, endRow, mixRow, h0, h1, h2, h3, h4, h5]

/-- What the body stores, where its input blocks are the arrays' at token `q`. -/
theorem stored_of (x0 : Vec Ideal S256x1024 .f32) (x1 : Vec Ideal S8x256x1024 .f32) (x2 : Vec Ideal S256x128 .f32)
    (x3 : Vec Ideal S256x256 .f32) (x4 : Vec Ideal S1024x1024 .bf16) (x5 : Vec Ideal S256x1024 .bf16) (x6 : Vec Ideal S1x1024 .f32)
    (h : Cert.EmbedReferenceIdeal.Ple.Rows) (y : FVec Ideal Cert.EmbedReferenceIdeal.S8x16384x1024 .f32)
    (d : FVec Ideal Cert.EmbedReferenceIdeal.S16384x128 .f32) (p : FVec Ideal Cert.EmbedReferenceIdeal.S4x4096x256 .f32)
    (W : FVec Ideal Cert.EmbedReferenceIdeal.S1024x1024 .f32) (P : FVec Ideal Cert.EmbedReferenceIdeal.S256x1024 .f32)
    (g : FVec Ideal Cert.EmbedReferenceIdeal.S1024 .f32)
    (r : Fin 256) (q : Fin 16384) (h0 : ∀ o : Fin 1024, x0 (ix2 r o) = h (ix2 q o))
    (h1 : ∀ (e : Fin 8) (o : Fin 1024), x1 (ix3 e r o) = y (ix3 e q o)) (h2 : ∀ l : Fin 128, x2 (ix2 r l) = d (ix2 q l))
    (h3 : ∀ j : Fin 256, x3 (ix2 r j) = flat p (ix2 q j)) (h4 : ∀ k o : Fin 1024, x4 (ix2 k o) = W (ix2 k o))
    (h5 : ∀ (j : Fin 256) (o : Fin 1024), x5 (ix2 j o) = P (ix2 j o)) (h6 : ∀ o : Fin 1024, x6 (ix2 0 o) = g (ix1 o)) (o : Fin 1024) :
    out0_7 (F := Ideal) x0 x1 x2 x3 x4 x5 x6 (ix2 r o) = REF h y d p W P (ix2 q o)
      ∧ out0_8 (F := Ideal) x0 x1 x2 x3 x4 x5 x6 (ix2 r o) = normTerm (REF h y d p W P) g (ix2 q o) := by
  have hr := row_of x0 x1 x2 x3 x4 x5 h y d p W P r q h0 h1 h2 h3 h4 h5
  refine ⟨(out7_at x0 x1 x2 x3 x4 x5 x6 r o).trans (hr o), ?_⟩
  rw [out8_at, Cert.EmbedReferenceIdeal.Ple.norm_at, funext hr, funext h6]

/-- What a point stores at row `r` is the reference's rows of its token. -/
theorem stored (t : Fin grid0.N) (r : Fin 256) (q : Fin 16384) (hq : q.val = t.val * 256 + r.val) (o : Fin 1024) :
    out0_7 (F := Ideal) (iblk m c 0 t) (iblk m c 1 t) (iblk m c 2 t) (iblk m c 3 t) (iblk m c 4 t) (iblk m c 5 t) (iblk m c 6 t) (ix2 r o)
        = REF (m ⟨c, main_arg0⟩) (m ⟨c, main_arg1⟩) (m ⟨c, main_arg2⟩) (m ⟨c, main_arg3⟩) (m ⟨c, main_arg4⟩) (m ⟨c, main_arg5⟩) (ix2 q o)
      ∧ out0_8 (F := Ideal) (iblk m c 0 t) (iblk m c 1 t) (iblk m c 2 t) (iblk m c 3 t) (iblk m c 4 t) (iblk m c 5 t) (iblk m c 6 t) (ix2 r o)
        = normTerm (REF (m ⟨c, main_arg0⟩) (m ⟨c, main_arg1⟩) (m ⟨c, main_arg2⟩) (m ⟨c, main_arg3⟩) (m ⟨c, main_arg4⟩)
            (m ⟨c, main_arg5⟩)) (m ⟨c, main_arg6⟩) (ix2 q o) := by
  have b0 := fun o => blk0 m c t r o q hq
  have b1 := fun e o => blk1 m c t e r o q hq
  have b2 := fun l => blk2 m c t r l q hq
  have b3 := fun j => blk3 m c t r j q hq
  have b4 := blk4 m c t
  have b5 := blk5 m c t
  have b6 := blk6 m c t
  generalize iblk m c 0 t = x0, iblk m c 1 t = x1, iblk m c 2 t = x2, iblk m c 3 t = x3, iblk m c 4 t = x4, iblk m c 5 t = x5,
    iblk m c 6 t = x6 at b0 b1 b2 b3 b4 b5 b6 ⊢
  generalize m ⟨c, main_arg0⟩ = h, m ⟨c, main_arg1⟩ = y, m ⟨c, main_arg2⟩ = d, m ⟨c, main_arg3⟩ = p, m ⟨c, main_arg4⟩ = W,
    m ⟨c, main_arg5⟩ = P, m ⟨c, main_arg6⟩ = g at b0 b1 b2 b3 b4 b5 b6 ⊢
  exact stored_of x0 x1 x2 x3 x4 x5 x6 h y d p W P g r q b0 b1 b2 b3 b4 b5 b6 o

/-- Where a result's block puts an element. -/
theorem emb7 (t : Fin grid0.N) (r : Fin 256) (o : Fin 1024) (q : Fin 16384) (hq : q.val = t.val * 256 + r.val) :
    ((cfg0.win 7).blk t).view.emb (ix2 r o) = ix2 q o := by
  funext a
  apply Fin.ext
  have h := Pipeline.Window.rect_emb_val (cfg0.win 7) t (ix2 r o) a
  rw [show (cfg0.win 7).index t = _ from rowTile t] at h
  refine Eq.trans h ?_
  fin_cases a
  · exact hq.symm
  · exact Nat.zero_add _

theorem emb8 (t : Fin grid0.N) (r : Fin 256) (o : Fin 1024) (q : Fin 16384) (hq : q.val = t.val * 256 + r.val) :
    ((cfg0.win 8).blk t).view.emb (ix2 r o) = ix2 q o := emb7 t r o q hq

/-- The first result after the run. -/
theorem final7 : (dats m 0 c).arrAt 7 cfg0.N
    = REF (m ⟨c, main_arg0⟩) (m ⟨c, main_arg1⟩) (m ⟨c, main_arg2⟩) (m ⟨c, main_arg3⟩) (m ⟨c, main_arg4⟩) (m ⟨c, main_arg5⟩) := by
  refine (dats m 0 c).arrAt_eq_of_covers 7 _ covers7 fun t hf y => ?_
  rw [after0_7]
  revert y
  intro (y : S256x1024.Idx)
  idx_vars y
  have ht : t.val < 64 := t.isLt
  obtain ⟨q, hq⟩ : ∃ q : Fin 16384, q.val = t.val * 256 + y0.val := ⟨⟨t.val * 256 + y0.val, by omega⟩, rfl⟩
  refine Eq.trans ?_ (congrArg (REF _ _ _ _ _ _) (emb7 t y0 y1 q hq).symm)
  have h := (stored m c t y0 q hq y1).1
  generalize out0_7 (F := Ideal) (iblk m c 0 t) (iblk m c 1 t) (iblk m c 2 t) (iblk m c 3 t) (iblk m c 4 t) (iblk m c 5 t)
    (iblk m c 6 t) = f at h ⊢
  exact h

/-- The second result after the run. -/
theorem final8 : (dats m 0 c).arrAt 8 cfg0.N
    = normTerm (REF (m ⟨c, main_arg0⟩) (m ⟨c, main_arg1⟩) (m ⟨c, main_arg2⟩) (m ⟨c, main_arg3⟩) (m ⟨c, main_arg4⟩)
        (m ⟨c, main_arg5⟩)) (m ⟨c, main_arg6⟩) := by
  refine (dats m 0 c).arrAt_eq_of_covers 8 _ covers8 fun t hf y => ?_
  rw [after0_8]
  revert y
  intro (y : S256x1024.Idx)
  idx_vars y
  have ht : t.val < 64 := t.isLt
  obtain ⟨q, hq⟩ : ∃ q : Fin 16384, q.val = t.val * 256 + y0.val := ⟨⟨t.val * 256 + y0.val, by omega⟩, rfl⟩
  refine Eq.trans ?_ (congrArg (normTerm _ _) (emb8 t y0 y1 q hq).symm)
  have h := (stored m c t y0 q hq y1).2
  generalize out0_8 (F := Ideal) (iblk m c 0 t) (iblk m c 1 t) (iblk m c 2 t) (iblk m c 3 t) (iblk m c 4 t) (iblk m c 5 t)
    (iblk m c 6 t) = f at h ⊢
  exact h

end Cert.EmbedIdeal.Ple

end
-- ==== Proof.ProjectIdeal.Row.lean ====
/- What the projection call's body stores for one token row: the root-mean-square norm of the row times columns of the
   weights, the first 256 columns scaled, and of 4 columns the logarithm of the sigmoid. The body's two cases, at the first
   tile of a sequence and at a later one, differ in the sums carried along the sequence only, which none of these results
   reads. -/
module

public import proofs.«01_k».proof.Proof.Gen.ProjectIdeal.Frame
public import proofs.«01_k».proof.Proof.EmbedIdeal.Row
public import Idealize.ShloMosaic.PureOps.Ideal.Laws
public import Idealize.ShloMosaic.Lib.Pointwise
public import Idealize.ShloMosaic.Lib.WordCmp
public import Idealize.ShloMosaic.Lib.Pipeline.ValueKit

@[expose] public section

set_option maxRecDepth 16384

noncomputable section

namespace Cert.ProjectIdeal.Proj

open Idealize.ShloMosaic Idealize.ShloMosaic.TcCoe Idealize.SL.Sem
open Cert.ProjectIdeal Cert.ProjectIdeal.Gen
open Cert.EmbedIdeal.Ple (normed)

/-- A row's norm times one column of weights. -/
def proj (x g w : Fin 1024 → EReal) : EReal := ∑ k, normed x g k * w k

/-- The scale of the queries, one eighth. -/
def eighth : EReal := Ideal.ofBits .f32 1040187392#32

/-- The logarithm of the sigmoid, in the form that does not overflow. -/
def logSig (z : EReal) : EReal := min z 0 - Ideal.log1p (Ideal.exp (0 - max z (-z)))

/-- The forget gates fill 4 of 128 lanes, the others hold zero. -/
def gate (z : EReal) (o : Fin 128) : EReal := if o.val < 4 then logSig z else 0

/-- Which lanes are the heads'. -/
theorem lane_lt : ∀ o : Fin 128, IntOp.cmpi .slt (BitVec.ofNat 32 o.val) 4#32 = if o.val < 4 then 1#1 else 0#1 := by decide

theorem gate_select (z : EReal) (o : Fin 128) :
    Scalar.select (IntOp.cmpi .slt (BitVec.ofNat 32 o.val) 4#32) (logSig z) 0 = gate z o := by
  rw [lane_lt]
  unfold gate
  by_cases h : o.val < 4
  · rw [if_pos h, if_pos h]
    rfl
  · rw [if_neg h, if_neg h]
    rfl

/-- The logarithm of one plus an exponential of a number not above zero is finite. -/
theorem log1p_finite (e : EReal) (he : e ≤ 0) : Ideal.log1p (Ideal.exp e) ≠ ⊥ ∧ Ideal.log1p (Ideal.exp e) ≠ ⊤ := by
  have key : ∀ r : ℝ, 0 ≤ r → Ideal.log1p (r : EReal) ≠ ⊥ ∧ Ideal.log1p (r : EReal) ≠ ⊤ := by
    intro r hr
    have h : Ideal.log1p (r : EReal) = ((Real.log (1 + r) : ℝ) : EReal) := by
      show Ideal.log (1 + (r : EReal)) = _
      rw [show (1 + (r : EReal)) = ((1 + r : ℝ) : EReal) by push_cast; rfl]
      show (if 1 + r ≤ 0 then (⊥ : EReal) else (Real.log (1 + r) : EReal)) = _
      rw [if_neg (by linarith)]
    rw [h]
    exact ⟨EReal.coe_ne_bot _, EReal.coe_ne_top _⟩
  induction e using EReal.rec with
  | bot => exact key 0 le_rfl
  | coe r => exact key (Real.exp r) (Real.exp_pos r).le
  | top => exact absurd he (by simp)

/-- The negated softplus of `-z` is the logarithm of the sigmoid of `z`. -/
theorem neg_softplus (z : EReal) :
    -(max (-z) 0 + Ideal.log1p (Ideal.exp (-(max (-z - 0) (-(-z - 0)))))) = logSig z := by
  have hz : (-z - 0 : EReal) = -z := sub_zero _
  rw [hz, neg_neg, max_comm (-z) z]
  unfold logSig
  rw [zero_sub]
  have hm : -(max z (-z)) ≤ 0 := by
    rcases le_total 0 z with h | h
    · exact EReal.neg_le_zero.2 (h.trans (le_max_left _ _))
    · exact EReal.neg_le_zero.2 ((EReal.neg_nonneg.2 h).trans (le_max_right _ _))
  obtain ⟨h1, h2⟩ := log1p_finite _ hm
  rw [EReal.neg_add (Or.inr h2) (Or.inr h1)]
  congr 1
  rcases le_total 0 z with h | h
  · rw [max_eq_right (EReal.neg_le_zero.2 h), min_eq_right h, neg_zero]
  · rw [max_eq_left (EReal.neg_nonneg.2 h), min_eq_left h, neg_neg]

variable (x0 : Vec Ideal S512x1024 .f32) (x1 : Vec Ideal S1x1024 .f32) (x2 : Vec Ideal S1024x2176 .bf16) (x3 : Vec Ideal S1x128 .f32)

/-- Column `j` of the projection of row `r`. -/
abbrev col (r : Fin 512) (j : Fin 2176) : EReal := proj (fun k => x0 (ix2 r k)) (fun k => x1 (ix2 0 k)) (fun k => x2 (ix2 k j))

theorem norm_at (r : Fin 512) (k : Fin 1024) :
    k0_pay3 (F := Ideal) x0 x1 (ix2 r k) = normed (fun k => x0 (ix2 r k)) (fun k => x1 (ix2 0 k)) k := by
  pointwise [k0_pay3, normed]

theorem q_at (r : Fin 512) (o : Fin 256) :
    k0_pay4 (F := Ideal) x0 x1 (View.ld x2 (Rect.unit ![0, 0] ![1024, 256] inb_S1024x2176_S1024x256_0_0)) (ix2 r o)
      = col x0 x1 x2 r ⟨o.val, by omega⟩ * eighth := by
  pointwise [k0_pay4]
  simp only [norm_at]
  rfl

theorem k_at (r : Fin 512) (o : Fin 256) :
    k0_pay5 (F := Ideal) x0 x1 (View.ld x2 (Rect.unit ![0, 256] ![1024, 256] inb_S1024x2176_S1024x256_0_256)) (ix2 r o)
      = col x0 x1 x2 r ⟨256 + o.val, by omega⟩ := by
  pointwise [k0_pay5]
  simp only [norm_at]
  rfl

theorem v_at (r : Fin 512) (o : Fin 256) :
    k0_pay7 (F := Ideal) (k0_pay3 x0 x1) (View.ld x2 (Rect.unit ![0, 512] ![1024, 256] inb_S1024x2176_S1024x256_0_512)) (ix2 r o)
      = col x0 x1 x2 r ⟨512 + o.val, by omega⟩ := by
  pointwise [k0_pay7]
  simp only [norm_at]
  rfl

theorem zc_at (r : Fin 512) (o : Fin 1280) :
    k0_pay9 (F := Ideal) (k0_pay3 x0 x1) (View.ld x2 (Rect.unit ![0, 768] ![1024, 1280] inb_S1024x2176_S1024x1280_0_768)) (ix2 r o)
      = col x0 x1 x2 r ⟨768 + o.val, by omega⟩ := by
  pointwise [k0_pay9]
  simp only [norm_at]
  rfl

theorem lf_at (r : Fin 512) (o : Fin 128) :
    k0_pay10 (F := Ideal) (k0_pay3 x0 x1) (View.ld x2 (Rect.unit ![0, 2048] ![1024, 128] inb_S1024x2176_S1024x128_0_2048)) x3 (ix2 r o)
      = gate (col x0 x1 x2 r ⟨2048 + o.val, by omega⟩ + x3 (ix2 0 o)) o := by
  rw [← gate_select]
  pointwise [k0_pay10]
  simp only [norm_at]
  rfl

variable (m : (ℓ : Loc nD τ sig) → Buf (Elt Ideal) ℓ) (c : Dev nD)

/-- What a point leaves in the results' blocks, at row `r`. -/
theorem stored_at (t : Fin cfg0.N) (r : Fin 512) :
    (∀ o : Fin 256, (outsAt0 m c t.val t.isLt).1 (ix2 r o)
        = col (iblk m c 0 t) (iblk m c 1 t) (iblk m c 2 t) r ⟨o.val, by omega⟩ * eighth)
      ∧ (∀ o : Fin 256, (outsAt0 m c t.val t.isLt).2.1 (ix2 r o)
        = col (iblk m c 0 t) (iblk m c 1 t) (iblk m c 2 t) r ⟨256 + o.val, by omega⟩)
      ∧ (∀ o : Fin 256, (outsAt0 m c t.val t.isLt).2.2.1 (ix2 r o)
        = col (iblk m c 0 t) (iblk m c 1 t) (iblk m c 2 t) r ⟨512 + o.val, by omega⟩)
      ∧ (∀ o : Fin 256, (outsAt0 m c t.val t.isLt).2.2.2.1 (ix2 r o)
        = col (iblk m c 0 t) (iblk m c 1 t) (iblk m c 2 t) r ⟨256 + o.val, by omega⟩)
      ∧ (∀ o : Fin 256, (outsAt0 m c t.val t.isLt).2.2.2.2.1 (ix2 r o)
        = col (iblk m c 0 t) (iblk m c 1 t) (iblk m c 2 t) r ⟨512 + o.val, by omega⟩)
      ∧ (∀ o : Fin 128, (outsAt0 m c t.val t.isLt).2.2.2.2.2.1 (ix2 r o)
        = gate (col (iblk m c 0 t) (iblk m c 1 t) (iblk m c 2 t) r ⟨2048 + o.val, by omega⟩ + iblk m c 3 t (ix2 0 o)) o)
      ∧ (∀ o : Fin 1280, (outsAt0 m c t.val t.isLt).2.2.2.2.2.2.2.2.1 (ix2 r o)
        = col (iblk m c 0 t) (iblk m c 1 t) (iblk m c 2 t) r ⟨768 + o.val, by omega⟩) := by
  by_cases h : t.val % 8 = 0
  on_goal 1 => rw [outsAt0_A m c t h]
  on_goal 2 => rw [outsAt0_B m c t h]
  all_goals
    refine ⟨fun o => ?_, fun o => ?_, fun o => ?_, fun o => ?_, fun o => ?_, fun o => ?_, fun o => ?_⟩
    all_goals frame_out
    exacts [q_at _ _ _ r o, k_at _ _ _ r o, v_at _ _ _ r o, k_at _ _ _ r o, v_at _ _ _ r o, lf_at _ _ _ _ r o, zc_at _ _ _ r o]

end Cert.ProjectIdeal.Proj

end
-- ==== Proof.ProjectIdeal.Reference.lean ====
/- What the projection call's reference computes, read at one token and column: the norm of the row times a column of the
   weights, scaled for the queries, and the logarithm of the sigmoid for the forget gates. -/
module

public import proofs.«01_k».proof.Proof.Gen.ProjectReferenceIdeal.Run
public import proofs.«01_k».proof.Proof.ProjectIdeal.Row

@[expose] public section

set_option maxRecDepth 16384

noncomputable section

namespace Cert.ProjectReferenceIdeal.Proj

open Idealize.ShloMosaic Idealize.ShloMosaic.TcCoe Idealize.SL.Sem
open Cert.ProjectReferenceIdeal Cert.ProjectReferenceIdeal.Gen
open Cert.EmbedIdeal.Ple (normed)
open Cert.ProjectIdeal.Proj (proj eighth logSig gate neg_softplus)

variable (h : FVec Ideal S16384x1024 .f32) (g : FVec Ideal S1024 .f32) (w : FVec Ideal S1024x2052 .f32) (b : FVec Ideal S4 .f32)

/-- The root-mean-square norm of each row, scaled. -/
def normTerm : FVec Ideal S16384x1024 .f32 :=
  mulf (mulf h (broadcastInDim S16384x1024 ![0, 1] bcast_S16384x1_S16384x1024_0_1 (Host.rsqrt (addf
      (Host.divf (broadcastInDim S16384x1 ![0] bcast_S16384_S16384x1_0
          (Host.reduceAdd (mulf h h) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The projection: all columns. -/
def projTerm : FVec Ideal S16384x2052 .f32 :=
  Host.dotGeneral dot_S16384x1024_S1024x2052_S16384x2052_1_0_0_1_n_n none (normTerm h g) w

def qTerm : FVec Ideal S16384x256 .bf16 :=
  truncf .bf16 (mulf (extractStridedSlice S16384x256 ![0, 0] (projTerm h g w) slices_S16384x2052_S16384x256_0_0)
    (broadcastInDim S16384x256 ![] bcast_S_S16384x256 (constant S_ .f32 0x3E000000#32))) bitsLt_bf16_f32

def kTerm : FVec Ideal S16384x256 .f32 := extractStridedSlice S16384x256 ![0, 256] (projTerm h g w) slices_S16384x2052_S16384x256_0_256

def vTerm : FVec Ideal S16384x256 .f32 := extractStridedSlice S16384x256 ![0, 512] (projTerm h g w) slices_S16384x2052_S16384x256_0_512

def kbTerm : FVec Ideal S16384x256 .bf16 := truncf .bf16 (kTerm h g w) bitsLt_bf16_f32

def vbTerm : FVec Ideal S16384x256 .bf16 := truncf .bf16 (vTerm h g w) bitsLt_bf16_f32

def zcTerm : FVec Ideal S16384x1280 .f32 := extractStridedSlice S16384x1280 ![0, 772] (projTerm h g w) slices_S16384x2052_S16384x1280_0_772

/-- The gates before the sigmoid, negated. -/
def negGate : FVec Ideal S16384x4 .f32 :=
  Host.negf (addf (extractStridedSlice S16384x4 ![0, 768] (projTerm h g w) slices_S16384x2052_S16384x4_0_768)
    (broadcastInDim S16384x4 ![0, 1] bcast_S1x4_S16384x4_0_1 (broadcastInDim S1x4 ![1] bcast_S4_S1x4_1 b)))

abbrev zeros : FVec Ideal S16384x4 .f32 := broadcastInDim S16384x4 ![] bcast_S_S16384x4 (constant S_ .f32 0x00000000#32)

/-- The negated softplus of an array. -/
def logTerm (x : FVec Ideal S16384x4 .f32) : FVec Ideal S16384x4 .f32 :=
  Host.negf (select (cmpf .une (subf x zeros) (subf x zeros)) (addf x zeros)
    (addf (maximumf x zeros) (Host.log1p (Host.exp (Host.negf (Host.absf (subf x zeros)))))))

def padTerm (x : FVec Ideal S16384x4 .f32) : FVec Ideal S16384x128 .f32 :=
  pad S16384x128 ![0, 0] ![0, 124] ![0, 0] x (sitofp .f32 (constantI S_ 32 0#32)) pads_S16384x4_S16384x128_000_01240 h_S_

def lfTerm : FVec Ideal S16384x128 .f32 := padTerm (logTerm (negGate h g w b))

theorem res22_eq (m : (ℓ : Loc nD τ sig) → Buf (Elt Ideal) ℓ) (c : Dev nD) :
    Value.res_main_v22 (F := Ideal) m c
      = lfTerm (m ((c.tc : Thread nD τ).loc main_arg0)) (m ((c.tc : Thread nD τ).loc main_arg1))
          (m ((c.tc : Thread nD τ).loc main_arg2)) (m ((c.tc : Thread nD τ).loc main_arg3)) := by
  unfold Value.res_main_v22
  rfl

/-- Column `j` of the projection of token `i`. -/
abbrev col (i : Fin 16384) (j : Fin 2052) : EReal := proj (fun k => h (ix2 i k)) (fun k => g (ix1 k)) (fun k => w (ix2 k j))

theorem norm_at (i : Fin 16384) (k : Fin 1024) :
    normTerm h g (ix2 i k) = normed (fun k => h (ix2 i k)) (fun k => g (ix1 k)) k := by
  pointwise [normTerm, normed]

theorem proj_at (i : Fin 16384) (j : Fin 2052) : projTerm h g w (ix2 i j) = col h g w i j := by
  pointwise [projTerm]
  simp only [norm_at]
  rfl

theorem q_at (i : Fin 16384) (o : Fin 256) : qTerm h g w (ix2 i o) = col h g w i ⟨o.val, by omega⟩ * eighth := by
  pointwise [qTerm]
  rw [proj_at]
  rfl

theorem k_at (i : Fin 16384) (o : Fin 256) : kTerm h g w (ix2 i o) = col h g w i ⟨256 + o.val, by omega⟩ := by
  pointwise [kTerm]
  exact proj_at h g w i _

theorem v_at (i : Fin 16384) (o : Fin 256) : vTerm h g w (ix2 i o) = col h g w i ⟨512 + o.val, by omega⟩ := by
  pointwise [vTerm]
  exact proj_at h g w i _

theorem zc_at (i : Fin 16384) (o : Fin 1280) : zcTerm h g w (ix2 i o) = col h g w i ⟨772 + o.val, by omega⟩ := by
  pointwise [zcTerm]
  exact proj_at h g w i _

theorem negGate_at (i : Fin 16384) (o : Fin 4) :
    negGate h g w b (ix2 i o) = -(col h g w i ⟨768 + o.val, by omega⟩ + b (ix1 o)) := by
  pointwise [negGate]
  rw [proj_at]

theorem log_at (x : FVec Ideal S16384x4 .f32) (i : Fin 16384) (o : Fin 4) (z : EReal) (hz : x (ix2 i o) = -z) :
    logTerm x (ix2 i o) = logSig z := by
  rw [← neg_softplus, ← hz]
  pointwise [logTerm]
  rw [if_neg fun h => h rfl]
  rfl

theorem pad_at (x : FVec Ideal S16384x4 .f32) (i : Fin 16384) (o : Fin 128) :
    padTerm x (ix2 i o) = if ho : o.val < 4 then x (ix2 i ⟨o.val, ho⟩) else 0 := by
  pointwise [padTerm]
  refine dite_congr rfl (fun _ => rfl) fun _ => ?_
  show (((0#32 : BitVec 32).toInt : ℝ) : EReal) = 0
  simp

theorem lf_at (i : Fin 16384) (o : Fin 128) (z : EReal)
    (hz : ∀ ho : o.val < 4, z = col h g w i ⟨768 + o.val, by omega⟩ + b (ix1 ⟨o.val, ho⟩)) :
    lfTerm h g w b (ix2 i o) = gate z o := by
  unfold lfTerm gate
  rw [pad_at]
  by_cases ho : o.val < 4
  · rw [dif_pos ho, if_pos ho, hz ho]
    exact log_at _ i _ _ (negGate_at h g w b i _)
  · rw [dif_neg ho, if_neg ho]

theorem kb_at (i : Fin 16384) (o : Fin 256) : kbTerm h g w (ix2 i o) = kTerm h g w (ix2 i o) := rfl

theorem vb_at (i : Fin 16384) (o : Fin 256) : vbTerm h g w (ix2 i o) = vTerm h g w (ix2 i o) := rfl

end Cert.ProjectReferenceIdeal.Proj

end
-- ==== Proof.ProjectIdeal.Value.lean ====
/- What the projection call leaves in its results: row tile `t` holds the rows of token tile `t`, and the weights' columns
   are the argument's in the order the host lays them out, so the whole arrays are the reference's. -/
module

public import proofs.«01_k».proof.Proof.Gen.ProjectIdeal.Frame
public import proofs.«01_k».proof.Proof.Gen.ProjectIdeal.Value
public import proofs.«01_k».proof.Proof.ProjectIdeal.Reference
public import Idealize.ShloMosaic.Lib.Pipeline.ValueKit
public import Idealize.ShloMosaic.Lib.StableHlo.RunRead
public import Idealize.ShloMosaic.Lib.Pipeline.Covers

@[expose] public section

set_option maxRecDepth 16384

noncomputable section

namespace Cert.ProjectIdeal.Proj

open Idealize.ShloMosaic Idealize.ShloMosaic.TcCoe Idealize.SL.Sem
open Cert.ProjectIdeal Cert.ProjectIdeal.Gen
open Cert.ProjectReferenceIdeal.Proj (qTerm kTerm vTerm kbTerm vbTerm lfTerm zcTerm)

variable (m : (ℓ : Loc nD τ sig) → Buf (Elt Ideal) ℓ) (c : Dev nD)

/-- A row tile's block index at a point is the point: the grid's two coordinates number the sequence and its tile. -/
theorem rowTile (t : Fin grid0.N) : cc0_transform_0 (grid0.coords t) = ![t.val, 0] := by
  have ht : t.val < 32 := t.isLt
  have h0 : (grid0.coords t 0).val = t.val / 8 % 4 := Pipeline.Grid.coords_val t 0 (S := 8) (B := 4) (by decide) rfl
  have h1 : (grid0.coords t 1).val = t.val / 1 % 8 := Pipeline.Grid.coords_val t 1 (S := 1) (B := 8) (by decide) rfl
  funext a
  fin_cases a
  · show (BitVec.ofNat 32 (grid0.coords t 0).val * 8#32 + BitVec.ofNat 32 (grid0.coords t 1).val).toNat = t.val
    rw [h0, h1, BitVec.toNat_add, BitVec.toNat_mul, BitVec.toNat_ofNat, BitVec.toNat_ofNat, BitVec.toNat_ofNat]
    omega
  · rfl

/-- The gates' columns, before 124 columns of zero. -/
def gateCols (w : FVec Ideal S1024x2052 .f32) : FVec Ideal S1024x128 .f32 :=
  pad S1024x128 ![0, 0] ![0, 124] ![0, 0] (extractStridedSlice S1024x4 ![0, 768] w slices_S1024x2052_S1024x4_0_768)
    (sitofp .f32 (constantI S_ 32 0#32)) pads_S1024x4_S1024x128_000_01240 h_S_

/-- The weights' pieces side by side, narrowed. -/
def join (a : FVec Ideal S1024x768 .f32) (b : FVec Ideal S1024x1280 .f32) (d : FVec Ideal S1024x128 .f32) :
    FVec Ideal S1024x2176 .bf16 :=
  truncf .bf16 (concatenate S1024x2176 1 [⟨S1024x768, a⟩, ⟨S1024x1280, b⟩, ⟨S1024x128, d⟩]
    concatenates_S1024x768_S1024x1280_S1024x128_S1024x2176_d1) bitsLt_bf16_f32

/-- The weights as the host lays them out: the columns of queries, keys and values, the other mixers' columns, the gates'. -/
def wTerm (w : FVec Ideal S1024x2052 .f32) : FVec Ideal S1024x2176 .bf16 :=
  join (extractStridedSlice S1024x768 ![0, 0] w slices_S1024x2052_S1024x768_0_0)
    (extractStridedSlice S1024x1280 ![0, 772] w slices_S1024x2052_S1024x1280_0_772) (gateCols w)

def bTerm (b : FVec Ideal S4 .f32) : FVec Ideal S1x128 .f32 :=
  shapeCast S1x128 (pad S128 ![0] ![124] ![0] b (sitofp .f32 (constantI S_ 32 0#32)) pads_S4_S128_01240 h_S_) shapeCasts_S128_S1x128

/-- The operations on the host, and a buffer's contents when its pieces of the weights are made. -/
abbrev hostLine : List (HloOp τ sig (Elt Ideal)) :=
  List.flatten [hostOps0, hostOps0_1, hostOps0_2, hostOps0_3, hostOps0_4, hostOps0_5, hostOps0_6, hostOps0_7, hostOps0_8,
    hostOps0_9, hostOps0_10]

abbrev piece (r : Ref sig .tc) : Buf (Elt Ideal) ((c : Thread nD τ).loc r) :=
  StableHlo.upto hostLine (fun b => m (c, b)) 10 (Proc.tc.devRef r)

theorem piece_qkv : piece m c main_v0
    = extractStridedSlice S1024x768 ![0, 0] (m ⟨c, main_arg2⟩) slices_S1024x2052_S1024x768_0_0 := by
  unfold piece
  after_reads_simp

theorem piece_rest : piece m c main_v1
    = extractStridedSlice S1024x1280 ![0, 772] (m ⟨c, main_arg2⟩) slices_S1024x2052_S1024x1280_0_772 := by
  unfold piece
  after_reads_simp

theorem piece_gate : piece m c main_v3 = gateCols (m ⟨c, main_arg2⟩) := by
  unfold piece
  after_reads_simp
  rfl

theorem V_w : V m c main_v5 = wTerm (m ⟨c, main_arg2⟩) := by
  have e : V m c main_v5 = join (piece m c main_v0) (piece m c main_v1) (piece m c main_v3) := by
    unfold V
    after_reads_simp
    rfl
  rw [e, piece_qkv, piece_rest, piece_gate]
  rfl

theorem V_b : V m c main_v7 = bTerm (m ⟨c, main_arg3⟩) := by
  unfold V
  after_reads_simp
  rfl

/-- A column of queries, keys or values keeps its place. -/
theorem w_qkv (w : FVec Ideal S1024x2052 .f32) (k : Fin 1024) (j : Fin 2176) (i : Fin 2052) (hj : j.val < 768) (hi : i.val = j.val) :
    wTerm w (ix2 k j) = w (ix2 k i) := by
  pointwise [wTerm, join, gateCols]
  rw [dif_pos hj]
  exact congrArg (fun i => w (ix2 k i)) (Fin.ext hi.symm)

/-- The other mixers' columns move 4 to the front. -/
theorem w_rest (w : FVec Ideal S1024x2052 .f32) (k : Fin 1024) (j : Fin 2176) (i : Fin 2052) (h1 : 768 ≤ j.val) (h2 : j.val < 2048)
    (hi : i.val = j.val + 4) : wTerm w (ix2 k j) = w (ix2 k i) := by
  pointwise [wTerm, join, gateCols]
  rw [dif_neg (by omega), dif_pos (by omega)]
  exact congrArg (fun i => w (ix2 k i)) (Fin.ext (by show 772 + (j.val - 768) = i.val; omega))

/-- The gates' columns come last. -/
theorem w_gate (w : FVec Ideal S1024x2052 .f32) (k : Fin 1024) (j : Fin 2176) (i : Fin 2052) (h1 : 2048 ≤ j.val) (h2 : j.val < 2052)
    (hi : i.val + 1280 = j.val) : wTerm w (ix2 k j) = w (ix2 k i) := by
  pointwise [wTerm, join, gateCols]
  rw [dif_neg (by omega), dif_neg (by omega), dif_pos (by omega)]
  exact congrArg (fun i => w (ix2 k i)) (Fin.ext (by show 768 + (j.val - 768 - 1280) = i.val; omega))

theorem b_at (b : FVec Ideal S4 .f32) (o : Fin 128) (ho : o.val < 4) : bTerm b (ix2 0 o) = b (ix1 ⟨o.val, ho⟩) := by
  pointwise [bTerm]
  rw [dif_pos ho]

theorem V_g (k : Fin 1024) : V m c main_v8 (ix2 0 k) = m ⟨c, main_arg1⟩ (ix1 k) := by
  unfold V
  after_reads_simp
  generalize m ⟨c, main_arg1⟩ = x
  revert x
  show ∀ x : FVec Ideal S1024 .f32, _
  intro x
  pointwise []

/-- The blocks at a point: token tile `t` of the rows, the whole of the weights. -/
theorem blk0 (t : Fin grid0.N) (r : Fin 512) (k : Fin 1024) (q : Fin 16384) (hq : q.val = t.val * 512 + r.val) :
    iblk m c 0 t (ix2 r k) = m ⟨c, main_arg0⟩ (ix2 q k) := by
  refine (congrArg (V m c main_arg0) (?_ : _ = ix2 q k)).trans (congrFun (V_main_arg0 m c) _)
  funext a
  apply Fin.ext
  have h := Pipeline.Window.rect_emb_val (cfg0.win 0) t (ix2 r k) a
  rw [show (cfg0.win 0).index t = _ from rowTile t] at h
  refine Eq.trans h ?_
  fin_cases a
  · exact hq.symm
  · exact Nat.zero_add _

theorem blk1 (t : Fin grid0.N) (k : Fin 1024) : iblk m c 1 t (ix2 0 k) = m ⟨c, main_arg1⟩ (ix1 k) := by
  refine (congrArg (V m c main_v8) (?_ : _ = ix2 0 k)).trans (V_g m c k)
  funext a
  apply Fin.ext
  refine (Pipeline.Window.rect_emb_val (cfg0.win 1) t (ix2 0 k) a).trans ?_
  fin_cases a <;> exact Nat.zero_add _

theorem blk2 (t : Fin grid0.N) (k : Fin 1024) (j : Fin 2176) : iblk m c 2 t (ix2 k j) = wTerm (m ⟨c, main_arg2⟩) (ix2 k j) := by
  refine (congrArg (V m c main_v5) (?_ : _ = ix2 k j)).trans (congrFun (V_w m c) _)
  funext a
  apply Fin.ext
  refine (Pipeline.Window.rect_emb_val (cfg0.win 2) t (ix2 k j) a).trans ?_
  fin_cases a <;> exact Nat.zero_add _

theorem blk3 (t : Fin grid0.N) (o : Fin 128) (ho : o.val < 4) : iblk m c 3 t (ix2 0 o) = m ⟨c, main_arg3⟩ (ix1 ⟨o.val, ho⟩) := by
  refine (congrArg (V m c main_v7) (?_ : _ = ix2 0 o)).trans ((congrFun (V_b m c) _).trans (b_at _ o ho))
  funext a
  apply Fin.ext
  refine (Pipeline.Window.rect_emb_val (cfg0.win 3) t (ix2 0 o) a).trans ?_
  fin_cases a <;> exact Nat.zero_add _

/-- What a block's row gives, where its inputs are the arrays' at token `q`. -/
theorem stored_of (x0 : Vec Ideal S512x1024 .f32) (x1 : Vec Ideal S1x1024 .f32) (x2 : Vec Ideal S1024x2176 .bf16) (x3 : Vec Ideal S1x128 .f32)
    (h : FVec Ideal S16384x1024 .f32) (g : FVec Ideal S1024 .f32) (w : FVec Ideal S1024x2052 .f32) (b : FVec Ideal S4 .f32)
    (r : Fin 512) (q : Fin 16384) (h0 : ∀ k : Fin 1024, x0 (ix2 r k) = h (ix2 q k)) (h1 : ∀ k : Fin 1024, x1 (ix2 0 k) = g (ix1 k))
    (h2 : ∀ (k : Fin 1024) (j : Fin 2176), x2 (ix2 k j) = wTerm w (ix2 k j))
    (h3 : ∀ (o : Fin 128) (ho : o.val < 4), x3 (ix2 0 o) = b (ix1 ⟨o.val, ho⟩)) :
    (∀ o : Fin 256, col x0 x1 x2 r ⟨o.val, by omega⟩ * eighth = qTerm h g w (ix2 q o))
      ∧ (∀ o : Fin 256, col x0 x1 x2 r ⟨256 + o.val, by omega⟩ = kTerm h g w (ix2 q o))
      ∧ (∀ o : Fin 256, col x0 x1 x2 r ⟨512 + o.val, by omega⟩ = vTerm h g w (ix2 q o))
      ∧ (∀ o : Fin 128, gate (col x0 x1 x2 r ⟨2048 + o.val, by omega⟩ + x3 (ix2 0 o)) o = lfTerm h g w b (ix2 q o))
      ∧ (∀ o : Fin 1280, col x0 x1 x2 r ⟨768 + o.val, by omega⟩ = zcTerm h g w (ix2 q o)) := by
  have key : ∀ (j : Fin 2176) (i : Fin 2052), (∀ k, wTerm w (ix2 k j) = w (ix2 k i)) →
      col x0 x1 x2 r j = Cert.ProjectReferenceIdeal.Proj.col h g w q i := by
    intro j i hw
    simp only [col, Cert.ProjectReferenceIdeal.Proj.col, h0, h1, h2, hw]
  refine ⟨fun o => ?_, fun o => ?_, fun o => ?_, fun o => ?_, fun o => ?_⟩
  · rw [Cert.ProjectReferenceIdeal.Proj.q_at, key _ ⟨o.val, by omega⟩ fun k => w_qkv w k _ _ (by show o.val < 768; omega) rfl]
  · rw [Cert.ProjectReferenceIdeal.Proj.k_at, key _ ⟨256 + o.val, by omega⟩ fun k => w_qkv w k _ _ (by show 256 + o.val < 768; omega) rfl]
  · rw [Cert.ProjectReferenceIdeal.Proj.v_at, key _ ⟨512 + o.val, by omega⟩ fun k => w_qkv w k _ _ (by show 512 + o.val < 768; omega) rfl]
  · refine (Cert.ProjectReferenceIdeal.Proj.lf_at h g w b q o _ fun ho => ?_).symm
    rw [h3 o ho, key _ ⟨768 + o.val, by omega⟩ fun k => w_gate w k _ _ (by show 2048 ≤ 2048 + o.val; omega)
      (by show 2048 + o.val < 2052; omega) (by show 768 + o.val + 1280 = 2048 + o.val; omega)]
  · rw [Cert.ProjectReferenceIdeal.Proj.zc_at, key _ ⟨772 + o.val, by omega⟩ fun k => w_rest w k _ _ (by show 768 ≤ 768 + o.val; omega)
      (by show 768 + o.val < 2048; omega) (by show 772 + o.val = 768 + o.val + 4; omega)]

/-- What a point leaves in the results' blocks is the reference's rows of its tokens. -/
theorem stored (t : Fin cfg0.N) (r : Fin 512) (q : Fin 16384) (hq : q.val = t.val * 512 + r.val) :
    (∀ o : Fin 256, (outsAt0 m c t.val t.isLt).1 (ix2 r o) = qTerm (m ⟨c, main_arg0⟩) (m ⟨c, main_arg1⟩) (m ⟨c, main_arg2⟩) (ix2 q o))
      ∧ (∀ o : Fin 256, (outsAt0 m c t.val t.isLt).2.1 (ix2 r o) = kTerm (m ⟨c, main_arg0⟩) (m ⟨c, main_arg1⟩) (m ⟨c, main_arg2⟩) (ix2 q o))
      ∧ (∀ o : Fin 256, (outsAt0 m c t.val t.isLt).2.2.1 (ix2 r o) = vTerm (m ⟨c, main_arg0⟩) (m ⟨c, main_arg1⟩) (m ⟨c, main_arg2⟩) (ix2 q o))
      ∧ (∀ o : Fin 256, (outsAt0 m c t.val t.isLt).2.2.2.1 (ix2 r o) = kbTerm (m ⟨c, main_arg0⟩) (m ⟨c, main_arg1⟩) (m ⟨c, main_arg2⟩) (ix2 q o))
      ∧ (∀ o : Fin 256, (outsAt0 m c t.val t.isLt).2.2.2.2.1 (ix2 r o) = vbTerm (m ⟨c, main_arg0⟩) (m ⟨c, main_arg1⟩) (m ⟨c, main_arg2⟩) (ix2 q o))
      ∧ (∀ o : Fin 128, (outsAt0 m c t.val t.isLt).2.2.2.2.2.1 (ix2 r o)
        = lfTerm (m ⟨c, main_arg0⟩) (m ⟨c, main_arg1⟩) (m ⟨c, main_arg2⟩) (m ⟨c, main_arg3⟩) (ix2 q o))
      ∧ (∀ o : Fin 1280, (outsAt0 m c t.val t.isLt).2.2.2.2.2.2.2.2.1 (ix2 r o)
        = zcTerm (m ⟨c, main_arg0⟩) (m ⟨c, main_arg1⟩) (m ⟨c, main_arg2⟩) (ix2 q o)) := by
  have hs := stored_at m c t r
  have b0 := fun k => blk0 m c t r k q hq
  have b1 := blk1 m c t
  have b2 := blk2 m c t
  have b3 := blk3 m c t
  generalize outsAt0 m c t.val t.isLt = O at hs ⊢
  generalize iblk m c 0 t = x0, iblk m c 1 t = x1, iblk m c 2 t = x2, iblk m c 3 t = x3 at b0 b1 b2 b3 hs
  generalize m ⟨c, main_arg0⟩ = h, m ⟨c, main_arg1⟩ = g, m ⟨c, main_arg2⟩ = w, m ⟨c, main_arg3⟩ = b at b0 b1 b2 b3 ⊢
  obtain ⟨s1, s2, s3, s4, s5, s6, s7⟩ := hs
  obtain ⟨e1, e2, e3, e4, e5⟩ := stored_of x0 x1 x2 x3 h g w b r q b0 b1 b2 b3
  exact ⟨fun o => (s1 o).trans (e1 o), fun o => (s2 o).trans (e2 o), fun o => (s3 o).trans (e3 o), fun o => (s4 o).trans (e2 o),
    fun o => (s5 o).trans (e3 o), fun o => (s6 o).trans (e4 o), fun o => (s7 o).trans (e5 o)⟩

/-- Every row tile of a result is some point's block. -/
theorem covers10 : (cfg0.win 10).Covers := by
  have hs : ∀ a : Fin 2, 0 < (![512, 256] : Fin 2 → Nat) a := by decide
  refine Pipeline.Window.covers_of_index_surj _ rfl hs fun β => ?_
  have h0 : (β (0 : Fin 2)).val < 32 := lt_of_lt_of_eq (β (0 : Fin 2)).isLt (by decide : (16384 + 512 - 1) / 512 = 32)
  have h1 : (β (1 : Fin 2)).val < 1 := lt_of_lt_of_eq (β (1 : Fin 2)).isLt (by decide : (256 + 256 - 1) / 256 = 1)
  refine ⟨⟨(β (0 : Fin 2)).val, h0⟩, ?_⟩
  rw [show (cfg0.win 10).index _ = _ from rowTile _]
  show ∀ a : Fin 2, (![(β (0 : Fin 2)).val, 0] : Fin 2 → Nat) a = β a
  intro a
  fin_cases a
  · rfl
  · exact (Nat.lt_one_iff.mp h1).symm

theorem covers15 : (cfg0.win 15).Covers := by
  have hs : ∀ a : Fin 2, 0 < (![512, 128] : Fin 2 → Nat) a := by decide
  refine Pipeline.Window.covers_of_index_surj _ rfl hs fun β => ?_
  have h0 : (β (0 : Fin 2)).val < 32 := lt_of_lt_of_eq (β (0 : Fin 2)).isLt (by decide : (16384 + 512 - 1) / 512 = 32)
  have h1 : (β (1 : Fin 2)).val < 1 := lt_of_lt_of_eq (β (1 : Fin 2)).isLt (by decide : (128 + 128 - 1) / 128 = 1)
  refine ⟨⟨(β (0 : Fin 2)).val, h0⟩, ?_⟩
  rw [show (cfg0.win 15).index _ = _ from rowTile _]
  show ∀ a : Fin 2, (![(β (0 : Fin 2)).val, 0] : Fin 2 → Nat) a = β a
  intro a
  fin_cases a
  · rfl
  · exact (Nat.lt_one_iff.mp h1).symm

theorem covers18 : (cfg0.win 18).Covers := by
  have hs : ∀ a : Fin 2, 0 < (![512, 1280] : Fin 2 → Nat) a := by decide
  refine Pipeline.Window.covers_of_index_surj _ rfl hs fun β => ?_
  have h0 : (β (0 : Fin 2)).val < 32 := lt_of_lt_of_eq (β (0 : Fin 2)).isLt (by decide : (16384 + 512 - 1) / 512 = 32)
  have h1 : (β (1 : Fin 2)).val < 1 := lt_of_lt_of_eq (β (1 : Fin 2)).isLt (by decide : (1280 + 1280 - 1) / 1280 = 1)
  refine ⟨⟨(β (0 : Fin 2)).val, h0⟩, ?_⟩
  rw [show (cfg0.win 18).index _ = _ from rowTile _]
  show ∀ a : Fin 2, (![(β (0 : Fin 2)).val, 0] : Fin 2 → Nat) a = β a
  intro a
  fin_cases a
  · rfl
  · exact (Nat.lt_one_iff.mp h1).symm

/-- Blocks whose rows are the rows of an array's tokens are the array's blocks: for 256 columns, … -/
theorem spread256 {φ : EltTy} (f : Fin cfg0.N → Vec Ideal S512x256 φ) (G : Vec Ideal S16384x256 φ)
    (hf : ∀ (t : Fin cfg0.N) (r : Fin 512) (q : Fin 16384), q.val = t.val * 512 + r.val → ∀ o : Fin 256, f t (ix2 r o) = G (ix2 q o))
    (t : Fin cfg0.N) (y : S512x256.Idx) : f t y = G (((cfg0.win 10).blk t).view.emb y) := by
  idx_vars y
  have ht : t.val < 32 := t.isLt
  rw [hf t y0 ⟨t.val * 512 + y0.val, by omega⟩ rfl y1]
  refine congrArg G ?_
  funext a
  apply Fin.ext
  have h := Pipeline.Window.rect_emb_val (cfg0.win 10) t (ix2 y0 y1) a
  rw [show (cfg0.win 10).index t = _ from rowTile t] at h
  refine Eq.trans ?_ h.symm
  fin_cases a
  · rfl
  · exact (Nat.zero_add _).symm

/-- … for 128, … -/
theorem spread128 {φ : EltTy} (f : Fin cfg0.N → Vec Ideal S512x128 φ) (G : Vec Ideal S16384x128 φ)
    (hf : ∀ (t : Fin cfg0.N) (r : Fin 512) (q : Fin 16384), q.val = t.val * 512 + r.val → ∀ o : Fin 128, f t (ix2 r o) = G (ix2 q o))
    (t : Fin cfg0.N) (y : S512x128.Idx) : f t y = G (((cfg0.win 15).blk t).view.emb y) := by
  idx_vars y
  have ht : t.val < 32 := t.isLt
  rw [hf t y0 ⟨t.val * 512 + y0.val, by omega⟩ rfl y1]
  refine congrArg G ?_
  funext a
  apply Fin.ext
  have h := Pipeline.Window.rect_emb_val (cfg0.win 15) t (ix2 y0 y1) a
  rw [show (cfg0.win 15).index t = _ from rowTile t] at h
  refine Eq.trans ?_ h.symm
  fin_cases a
  · rfl
  · exact (Nat.zero_add _).symm

/-- … and for 1280. -/
theorem spread1280 {φ : EltTy} (f : Fin cfg0.N → Vec Ideal S512x1280 φ) (G : Vec Ideal S16384x1280 φ)
    (hf : ∀ (t : Fin cfg0.N) (r : Fin 512) (q : Fin 16384), q.val = t.val * 512 + r.val → ∀ o : Fin 1280, f t (ix2 r o) = G (ix2 q o))
    (t : Fin cfg0.N) (y : S512x1280.Idx) : f t y = G (((cfg0.win 18).blk t).view.emb y) := by
  idx_vars y
  have ht : t.val < 32 := t.isLt
  rw [hf t y0 ⟨t.val * 512 + y0.val, by omega⟩ rfl y1]
  refine congrArg G ?_
  funext a
  apply Fin.ext
  have h := Pipeline.Window.rect_emb_val (cfg0.win 18) t (ix2 y0 y1) a
  rw [show (cfg0.win 18).index t = _ from rowTile t] at h
  refine Eq.trans ?_ h.symm
  fin_cases a
  · rfl
  · exact (Nat.zero_add _).symm

/-- The results after the run: the scaled queries, … -/
theorem final10 : (dats m 0 c).arrAt 10 cfg0.N = qTerm (m ⟨c, main_arg0⟩) (m ⟨c, main_arg1⟩) (m ⟨c, main_arg2⟩) :=
  (dats m 0 c).arrAt_eq_of_covers 10 _ covers10 fun t hf y => (congrFun (after0_10 m c t) y).trans
    (spread256 (fun t => (outsAt0 m c t.val t.isLt).1) _ (fun t r q hq => (stored m c t r q hq).1) t y)

/-- … the keys and the values, … -/
theorem final11 : (dats m 0 c).arrAt 11 cfg0.N = kTerm (m ⟨c, main_arg0⟩) (m ⟨c, main_arg1⟩) (m ⟨c, main_arg2⟩) :=
  (dats m 0 c).arrAt_eq_of_covers 11 _ covers10 fun t hf y => (congrFun (after0_11 m c t) y).trans
    (spread256 (fun t => (outsAt0 m c t.val t.isLt).2.1) _ (fun t r q hq => (stored m c t r q hq).2.1) t y)

theorem final12 : (dats m 0 c).arrAt 12 cfg0.N = vTerm (m ⟨c, main_arg0⟩) (m ⟨c, main_arg1⟩) (m ⟨c, main_arg2⟩) :=
  (dats m 0 c).arrAt_eq_of_covers 12 _ covers10 fun t hf y => (congrFun (after0_12 m c t) y).trans
    (spread256 (fun t => (outsAt0 m c t.val t.isLt).2.2.1) _ (fun t r q hq => (stored m c t r q hq).2.2.1) t y)

/-- … the same in the narrower type, … -/
theorem final13 : (dats m 0 c).arrAt 13 cfg0.N = kbTerm (m ⟨c, main_arg0⟩) (m ⟨c, main_arg1⟩) (m ⟨c, main_arg2⟩) :=
  (dats m 0 c).arrAt_eq_of_covers 13 _ covers10 fun t hf y => (congrFun (after0_13 m c t) y).trans
    (spread256 (fun t => (outsAt0 m c t.val t.isLt).2.2.2.1) _ (fun t r q hq => (stored m c t r q hq).2.2.2.1) t y)

theorem final14 : (dats m 0 c).arrAt 14 cfg0.N = vbTerm (m ⟨c, main_arg0⟩) (m ⟨c, main_arg1⟩) (m ⟨c, main_arg2⟩) :=
  (dats m 0 c).arrAt_eq_of_covers 14 _ covers10 fun t hf y => (congrFun (after0_14 m c t) y).trans
    (spread256 (fun t => (outsAt0 m c t.val t.isLt).2.2.2.2.1) _ (fun t r q hq => (stored m c t r q hq).2.2.2.2.1) t y)

/-- … the forget gates' logarithms, … -/
theorem final15 : (dats m 0 c).arrAt 15 cfg0.N
    = lfTerm (m ⟨c, main_arg0⟩) (m ⟨c, main_arg1⟩) (m ⟨c, main_arg2⟩) (m ⟨c, main_arg3⟩) :=
  (dats m 0 c).arrAt_eq_of_covers 15 _ covers15 fun t hf y => (congrFun (after0_15 m c t) y).trans
    (spread128 (fun t => (outsAt0 m c t.val t.isLt).2.2.2.2.2.1) _ (fun t r q hq => (stored m c t r q hq).2.2.2.2.2.1) t y)

/-- … and the other mixers' inputs. -/
theorem final18 : (dats m 0 c).arrAt 18 cfg0.N = zcTerm (m ⟨c, main_arg0⟩) (m ⟨c, main_arg1⟩) (m ⟨c, main_arg2⟩) :=
  (dats m 0 c).arrAt_eq_of_covers 18 _ covers18 fun t hf y => (congrFun (after0_18 m c t) y).trans
    (spread1280 (fun t => (outsAt0 m c t.val t.isLt).2.2.2.2.2.2.2.2.1) _ (fun t r q hq => (stored m c t r q hq).2.2.2.2.2.2) t y)

end Cert.ProjectIdeal.Proj

end
-- ==== Proof.lean ====
/- The claims of this directory, for five calls: the experts' feed-forward, the attention, the dense feed-forward, the
   per-layer embedding and the input projection. Both forms of each call run to quiescence and leave their arguments; in exact arithmetic each call
   computes its reference, the attention call wherever the operands of its scores are finite. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Attention.Launch
public import proofs.«01_k».proof.Proof.Gen.Attention.Skeleton
public import proofs.«01_k».proof.Proof.Gen.AttentionIdeal.Launch
public import proofs.«01_k».proof.Proof.Gen.AttentionIdeal.Skeleton
public import proofs.«01_k».proof.Proof.Gen.AttentionReferenceIdeal.Run
public import proofs.«01_k».proof.Proof.Gen.Pre_finite_scores
public import proofs.«01_k».proof.Proof.Gen.Dense.Frame
public import proofs.«01_k».proof.Proof.Gen.DenseIdeal.Frame
public import proofs.«01_k».proof.Proof.Gen.DenseReferenceIdeal.Run
public import proofs.«01_k».proof.Proof.Gen.Embed.Frame
public import proofs.«01_k».proof.Proof.Gen.EmbedIdeal.Frame
public import proofs.«01_k».proof.Proof.Gen.EmbedIdeal.Value
public import proofs.«01_k».proof.Proof.Gen.EmbedReferenceIdeal.Run
public import proofs.«01_k».proof.Proof.Gen.Project.Frame
public import proofs.«01_k».proof.Proof.Gen.ProjectIdeal.Frame
public import proofs.«01_k».proof.Proof.Gen.ProjectIdeal.Value
public import proofs.«01_k».proof.Proof.Gen.ProjectReferenceIdeal.Run
public import proofs.«01_k».proof.Proof.Kernel.Tables
public import proofs.«01_k».proof.Proof.KernelIdeal.Value
public import proofs.«01_k».proof.Proof.Attention.Frame
public import proofs.«01_k».proof.Proof.AttentionIdeal.Agree
public import proofs.«01_k».proof.Proof.Dense.Tables
public import proofs.«01_k».proof.Proof.DenseIdeal.Value
public import proofs.«01_k».proof.Proof.EmbedIdeal.Value
public import proofs.«01_k».proof.Proof.ProjectIdeal.Value
public import Idealize.ShloMosaic.Adequacy
public import Idealize.ShloMosaic.Init

@[expose] public section

set_option maxRecDepth 16384

noncomputable section

namespace Cert.Proof

open Idealize.ShloMosaic Idealize.SL.Sem

/-- The reference runs and leaves its arguments. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The feed-forward call computes its reference. -/
theorem equation : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Ffn.REF (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)), Cert.KernelIdeal.Ffn.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3⟩ := hagree c
  rw [h0, h1, h2, h3]

/-- The attention call's reference runs and leaves its arguments. -/
theorem frame_attention_reference : Cert.quiescent_AttentionReferenceIdeal
    (hAttentionReferenceIdeal := Cert.AttentionReferenceIdeal.Gen.facts) := fun m g _ =>
  (θ_run Cert.AttentionReferenceIdeal.defs _ _).mono (fun r h => ⟨fun c => (h c).2, sem_eq_zero_of_no_sems (by decide) r.2⟩)
    (Cert.AttentionReferenceIdeal.Value.run (F := Ideal) m g)

/-- The attention call computes its reference, where the operands of its scores are finite. -/
theorem attention : Cert.algebraic_AttentionIdeal_AttentionReferenceIdeal_pre_finite_scores
    (hAttentionIdeal := Cert.AttentionIdeal.Gen.facts) (hAttentionReferenceIdeal := Cert.AttentionReferenceIdeal.Gen.facts)
    (hPre_finite_scores := Cert.Pre_finite_scores.Gen.facts) := by
  intro m g m' g' hpre hagree
  refine ⟨_, Cert.AttentionIdeal.Attn.run_value m g fun c => Cert.AttentionIdeal.Attn.finite_of_pre _ _ _ _ _ (hpre c), ?_⟩
  refine (θ_run Cert.AttentionReferenceIdeal.defs _ _).mono (fun r h c => ⟨(h c).1.trans ?_, (h c).2⟩)
    (Cert.AttentionReferenceIdeal.Value.run (F := Ideal) m' g')
  obtain ⟨h0, h1, h2, h3, h4⟩ := hagree c
  refine (Cert.AttentionReferenceIdeal.Attn.res_eq m' c).trans ?_
  rw [h0, h1, h2, h3, h4]

/-- The dense feed-forward call's reference runs and leaves its arguments. -/
theorem frame_dense_reference : Cert.quiescent_DenseReferenceIdeal
    (hDenseReferenceIdeal := Cert.DenseReferenceIdeal.Gen.facts) := fun m g _ =>
  (θ_run Cert.DenseReferenceIdeal.defs _ _).mono (fun r h => ⟨fun c => (h c).2, sem_eq_zero_of_no_sems (by decide) r.2⟩)
    (Cert.DenseReferenceIdeal.Value.run (F := Ideal) m g)

/-- The dense feed-forward call computes its reference. -/
theorem dense : Cert.algebraic_DenseIdeal_DenseReferenceIdeal (hDenseIdeal := Cert.DenseIdeal.Gen.facts)
    (hDenseReferenceIdeal := Cert.DenseReferenceIdeal.Gen.facts) := by
  intro m g m' g' _ hagree
  refine ⟨fun c => Cert.DenseIdeal.Ffn.REF (m ((c.tc : Thread _ _).loc Cert.DenseIdeal.main_arg0))
    (m ((c.tc : Thread _ _).loc Cert.DenseIdeal.main_arg1)) (m ((c.tc : Thread _ _).loc Cert.DenseIdeal.main_arg2))
    (m ((c.tc : Thread _ _).loc Cert.DenseIdeal.main_arg3)), Cert.DenseIdeal.Ffn.run m g, ?_⟩
  refine (θ_run Cert.DenseReferenceIdeal.defs _ _).mono (fun r h c => ⟨(h c).1.trans ?_, (h c).2⟩)
    (Cert.DenseReferenceIdeal.Value.run (F := Ideal) m' g')
  obtain ⟨h0, h1, h2, h3⟩ := hagree c
  rw [h0, h1, h2, h3]

/-- The embedding call's reference runs and leaves its arguments. -/
theorem frame_embed_reference : Cert.quiescent_EmbedReferenceIdeal
    (hEmbedReferenceIdeal := Cert.EmbedReferenceIdeal.Gen.facts) := fun m g _ =>
  (θ_run Cert.EmbedReferenceIdeal.defs _ _).mono (fun r h => ⟨fun c => (h c).2.2, sem_eq_zero_of_no_sems (by decide) r.2⟩)
    (Cert.EmbedReferenceIdeal.Value.run (F := Ideal) m g)

/-- The embedding call computes its reference, in both results. -/
theorem embed : Cert.algebraic_EmbedIdeal_EmbedReferenceIdeal (hEmbedIdeal := Cert.EmbedIdeal.Gen.facts)
    (hEmbedReferenceIdeal := Cert.EmbedReferenceIdeal.Gen.facts) := by
  intro m g m' g' _ hagree
  refine ⟨_, _, (θ_run Cert.EmbedIdeal.defs _ _).mono
    (fun r h c => ⟨(h c).1.trans (Cert.EmbedIdeal.Ple.final7 m c), (h c).2.1.trans (Cert.EmbedIdeal.Ple.final8 m c), (h c).2.2⟩)
    (Cert.EmbedIdeal.Value.run_blocks m g), ?_⟩
  refine (θ_run Cert.EmbedReferenceIdeal.defs _ _).mono (fun r h c => ⟨(h c).1.trans ?_, (h c).2.1.trans ?_, (h c).2.2⟩)
    (Cert.EmbedReferenceIdeal.Value.run (F := Ideal) m' g')
  · obtain ⟨h0, h1, h2, h3, h4, h5, h6⟩ := hagree c
    refine (Cert.EmbedReferenceIdeal.Ple.res60_eq m' c).trans ?_
    rw [h0, h1, h2, h3, h4, h5]
  · obtain ⟨h0, h1, h2, h3, h4, h5, h6⟩ := hagree c
    refine (Cert.EmbedReferenceIdeal.Ple.res73_eq m' c).trans ?_
    rw [h0, h1, h2, h3, h4, h5, h6]

/-- The projection call's reference runs and leaves its arguments. -/
theorem frame_project_reference : Cert.quiescent_ProjectReferenceIdeal
    (hProjectReferenceIdeal := Cert.ProjectReferenceIdeal.Gen.facts) := fun m g _ =>
  (θ_run Cert.ProjectReferenceIdeal.defs _ _).mono
    (fun r h => ⟨fun c => (h c).2.2.2.2.2.2.2, sem_eq_zero_of_no_sems (by decide) r.2⟩)
    (Cert.ProjectReferenceIdeal.Value.run (F := Ideal) m g)

open Cert.ProjectIdeal.Proj Cert.ProjectReferenceIdeal.Proj in
/-- The projection call computes its reference, in the seven results it claims. -/
theorem project : Cert.algebraic_ProjectIdeal_ProjectReferenceIdeal (hProjectIdeal := Cert.ProjectIdeal.Gen.facts)
    (hProjectReferenceIdeal := Cert.ProjectReferenceIdeal.Gen.facts) := by
  intro m g m' g' _ hagree
  let a0 := fun c : Dev Cert.ProjectIdeal.nD => m ((c.tc : Thread _ _).loc Cert.ProjectIdeal.main_arg0)
  let a1 := fun c : Dev Cert.ProjectIdeal.nD => m ((c.tc : Thread _ _).loc Cert.ProjectIdeal.main_arg1)
  let a2 := fun c : Dev Cert.ProjectIdeal.nD => m ((c.tc : Thread _ _).loc Cert.ProjectIdeal.main_arg2)
  let a3 := fun c : Dev Cert.ProjectIdeal.nD => m ((c.tc : Thread _ _).loc Cert.ProjectIdeal.main_arg3)
  refine ⟨fun c => qTerm (a0 c) (a1 c) (a2 c), fun c => kTerm (a0 c) (a1 c) (a2 c), fun c => vTerm (a0 c) (a1 c) (a2 c),
    fun c => kbTerm (a0 c) (a1 c) (a2 c), fun c => vbTerm (a0 c) (a1 c) (a2 c),
    fun c => lfTerm (a0 c) (a1 c) (a2 c) (a3 c), fun c => zcTerm (a0 c) (a1 c) (a2 c),
    (θ_run Cert.ProjectIdeal.defs _ _).mono (fun r h c => ?_) (Cert.ProjectIdeal.Value.run_blocks m g), ?_⟩
  · obtain ⟨q, k, v, kb, vb, lf, _, _, zc, kept⟩ := h c
    exact ⟨q.trans (final10 m c), k.trans (final11 m c), v.trans (final12 m c), kb.trans (final13 m c),
      vb.trans (final14 m c), lf.trans (final15 m c), zc.trans (final18 m c), kept⟩
  refine (θ_run Cert.ProjectReferenceIdeal.defs _ _).mono (fun r h c => ?_) (Cert.ProjectReferenceIdeal.Value.run (F := Ideal) m' g')
  obtain ⟨q, k, v, kb, vb, lf, zc, kept⟩ := h c
  obtain ⟨h0, h1, h2, h3⟩ := hagree c
  simp only [a0, a1, a2, a3, ← h0, ← h1, ← h2, ← h3]
  exact ⟨q, k, v, kb, vb, lf.trans (res22_eq m' c), zc, kept⟩

theorem claim : Cert.Claim :=
  ⟨Cert.Kernel.Gen.facts, Cert.KernelIdeal.Gen.facts, Cert.ReferenceIdeal.Gen.facts, Cert.Attention.Gen.facts,
    Cert.AttentionIdeal.Gen.facts, Cert.AttentionReferenceIdeal.Gen.facts, Cert.Dense.Gen.facts,
    Cert.DenseIdeal.Gen.facts, Cert.DenseReferenceIdeal.Gen.facts, Cert.Embed.Gen.facts, Cert.EmbedIdeal.Gen.facts,
    Cert.EmbedReferenceIdeal.Gen.facts, Cert.Project.Gen.facts, Cert.ProjectIdeal.Gen.facts,
    Cert.ProjectReferenceIdeal.Gen.facts, Cert.Pre_finite_scores.Gen.facts,
    fun m g _ => Cert.Kernel.Gen.frame m g (Cert.Kernel.Ffn.ok m),
    fun m g _ => Cert.KernelIdeal.Gen.frame m g (Cert.KernelIdeal.Ffn.ok m),
    frame_reference,
    fun m g _ => Cert.Attention.Attn.quiescent m g,
    fun m g _ => Cert.AttentionIdeal.Attn.quiescent m g,
    fun m g _ => Cert.AttentionIdeal.Attn.quiescent m g,
    frame_attention_reference, fun m g _ => frame_attention_reference m g trivial,
    fun m g _ => Cert.Dense.Gen.frame m g (Cert.Dense.Ffn.ok m),
    fun m g _ => Cert.DenseIdeal.Gen.frame m g (Cert.DenseIdeal.Ffn.ok m),
    frame_dense_reference,
    fun m g _ => Cert.Embed.Gen.frame m g,
    fun m g _ => Cert.EmbedIdeal.Gen.frame m g,
    frame_embed_reference,
    fun m g _ => Cert.Project.Gen.frame m g,
    fun m g _ => Cert.ProjectIdeal.Gen.frame m g,
    frame_project_reference,
    trivial, equation, trivial, attention, trivial, dense, trivial, embed, trivial, project⟩

end Cert.Proof

end
